-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S100000x1024 : Shape := ⟨2, ![100000, 1024]⟩
abbrev S12500x8x8x128 : Shape := ⟨4, ![12500, 8, 8, 128]⟩
abbrev S102400000 : Shape := ⟨1, ![102400000]⟩
abbrev S32 : Shape := ⟨1, ![32]⟩
abbrev S_ : Shape := ⟨0, ![]⟩
abbrev S16 : Shape := ⟨1, ![16]⟩
abbrev S1x1024 : Shape := ⟨2, ![1, 1024]⟩
abbrev S1x1 : Shape := ⟨2, ![1, 1]⟩
abbrev S2560x1024 : Shape := ⟨2, ![2560, 1024]⟩
abbrev S1x1x1024 : Shape := ⟨3, ![1, 1, 1024]⟩
abbrev S1 : Shape := ⟨1, ![1]⟩
abbrev S1x1x1 : Shape := ⟨3, ![1, 1, 1]⟩

abbrev nBuf : Table → Nat
  | .hbm => 13
  | .local .tc .vmem => 9
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S12500x8x8x128, .f32⟩
  | .hbm, ⟨4, _⟩ => ⟨S12500x8x8x128, .f32⟩
  | .hbm, ⟨5, _⟩ => ⟨S102400000, .f32⟩
  | .hbm, ⟨6, _⟩ => ⟨S1024, .f32⟩
  | .hbm, ⟨7, _⟩ => ⟨S1x1024, .i32⟩
  | .hbm, ⟨8, _⟩ => ⟨S1x1024, .f32⟩
  | .hbm, ⟨9, _⟩ => ⟨S100000x1024, .f32⟩
  | .hbm, ⟨10, _⟩ => ⟨S1x1, .f32⟩
  | .hbm, ⟨11, _⟩ => ⟨S_, .f32⟩
  | .hbm, ⟨12, _⟩ => ⟨S1024x100000, .f32⟩
  | .local .tc .vmem, ⟨0, _⟩ => ⟨S1x1024, .i32⟩
  | .local .tc .vmem, ⟨1, _⟩ => ⟨S1x1024, .f32⟩
  | .local .tc .vmem, ⟨2, _⟩ => ⟨S2560x1024, .f32⟩
  | .local .tc .vmem, ⟨3, _⟩ => ⟨S2560x1024, .f32⟩
  | .local .tc .vmem, ⟨4, _⟩ => ⟨S2560x1024, .f32⟩
  | .local .tc .vmem, ⟨5, _⟩ => ⟨S2560x1024, .f32⟩
  | .local .tc .vmem, ⟨6, _⟩ => ⟨S1x1, .f32⟩
  | .local .tc .vmem, ⟨7, _⟩ => ⟨S1x1024, .f32⟩
  | .local .tc .vmem, ⟨8, _⟩ => ⟨S1x1024, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev main_v3_scv : Ref sig .scVector := ⟨.hbm, 5, rfl⟩
abbrev main_arg1_scv : Ref sig .scVector := ⟨.hbm, 1, rfl⟩
abbrev main_v4_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_scratch0 : Ref sig .tc := ⟨.vmem, 7, rfl⟩
abbrev cc1_scratch1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![40], ![false]⟩

def k1_cond2 (i : grid1.Coords) : BitVec 1 :=
  let arg0 : BitVec 32 := BitVec.ofNat 32 (i 0).val
  let c39_i32 : BitVec 32 := 39#32
  let v38 : BitVec 1 := Scalar.cmpi .eq arg0 c39_i32
  let v39 : BitVec 32 := Scalar.extui v38
  let c0_i32_17 : BitVec 32 := 0#32
  let v40 : BitVec 1 := Scalar.cmpi .ne v39 c0_i32_17
  v40

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1024 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2560x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2560x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1024x100000, .f32⟩
  | .hbm, ⟨6, _⟩ => ⟨S1024x100000, .f32⟩
  | .hbm, ⟨7, _⟩ => ⟨S_, .f32⟩
  | .hbm, ⟨8, _⟩ => ⟨S1024x100000, .f32⟩
  | .hbm, ⟨9, _⟩ => ⟨S1024x100000, .f32⟩
  | .hbm, ⟨10, _⟩ => ⟨S1024x100000, .f32⟩
  | .hbm, ⟨11, _⟩ => ⟨S_, .f32⟩
  | .hbm, ⟨12, _⟩ => ⟨S1024x100000, .f32⟩
  | .hbm, ⟨13, _⟩ => ⟨S1024x100000, .f32⟩
  | .hbm, ⟨14, _⟩ => ⟨S_, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024x100000, .f32⟩
  | .hbm, ⟨23, _⟩ => ⟨S1024x100000, .f32⟩
  | .hbm, ⟨24, _⟩ => ⟨S_, .f32⟩
  | .hbm, ⟨25, _⟩ => ⟨S1024x100000, .f32⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S1024x100000, .f32⟩
  | .hbm, ⟨30, _⟩ => ⟨S1024x100000, .f32⟩
  | .hbm, ⟨31, _⟩ => ⟨S_, .f32⟩
  | .hbm, ⟨32, _⟩ => ⟨S1024x100000, .f32⟩
  | .hbm, ⟨33, _⟩ => ⟨S1024x100000, .i1⟩
  | .hbm, ⟨34, _⟩ => ⟨S_, .f32⟩
  | .hbm, ⟨35, _⟩ => ⟨S1024x100000, .f32⟩
  | .hbm, ⟨36, _⟩ => ⟨S1024x100000, .f32⟩
  | .hbm, ⟨37, _⟩ => ⟨S1024x100000, .f32⟩
  | .hbm, ⟨38, _⟩ => ⟨S_, .f32⟩
  | .hbm, ⟨39, _⟩ => ⟨S1024x100000, .f32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024x1, .i32⟩
  | .hbm, ⟨56, _⟩ => ⟨S1024x1, .i32⟩
  | .hbm, ⟨57, _⟩ => ⟨S1024x2, .i32⟩
  | .hbm, ⟨58, _⟩ => ⟨S_, .f32⟩
  | .hbm, ⟨59, _⟩ => ⟨S1024, .f32⟩
  | .hbm, ⟨60, _⟩ => ⟨S1024x100000, .f32⟩
  | .hbm, ⟨61, _⟩ => ⟨S1024x100000, .f32⟩
  | .hbm, ⟨62, _⟩ => ⟨S_, .f32⟩
  | .hbm, ⟨63, _⟩ => ⟨S1024x100000, .f32⟩
  | .hbm, ⟨64, _⟩ => ⟨S1024x100000, .f32⟩
  | .hbm, ⟨65, _⟩ => ⟨S1024x100000, .f32⟩
  | .hbm, ⟨66, _⟩ => ⟨S1024x100000, .f32⟩
  | .hbm, ⟨67, _⟩ => ⟨S_, .f32⟩
  | .hbm, ⟨68, _⟩ => ⟨S1024x100000, .f32⟩
  | .hbm, ⟨69, _⟩ => ⟨S1024x100000, .f32⟩
  | .hbm, ⟨70, _⟩ => ⟨S_, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024x1, .f32⟩
  | .hbm, ⟨76, _⟩ => ⟨S1024x100000, .f32⟩
  | .hbm, ⟨77, _⟩ => ⟨S1024x100000, .f32⟩
  | .hbm, ⟨78, _⟩ => ⟨S1024x100000, .f32⟩
  | .hbm, ⟨79, _⟩ => ⟨S_, .f32⟩
  | .hbm, ⟨80, _⟩ => ⟨S1024, .f32⟩
  | .hbm, ⟨81, _⟩ => ⟨S1024x1, .f32⟩
  | .hbm, ⟨82, _⟩ => ⟨S1024x1, .f32⟩
  | .hbm, ⟨83, _⟩ => ⟨S1024x100000, .f32⟩
  | .hbm, ⟨84, _⟩ => ⟨S1024x100000, .f32⟩
  | .hbm, ⟨85, _⟩ => ⟨S1024x1, .i32⟩
  | .hbm, ⟨86, _⟩ => ⟨S_, .i32⟩
  | .hbm, ⟨87, _⟩ => ⟨S1024x1, .i32⟩
  | .hbm, ⟨88, _⟩ => ⟨S1024x1, .i1⟩
  | .hbm, ⟨89, _⟩ => ⟨S_, .i32⟩
  | .hbm, ⟨90, _⟩ => ⟨S1024x1, .i32⟩
  | .hbm, ⟨91, _⟩ => ⟨S1024x1, .i32⟩
  | .hbm, ⟨92, _⟩ => ⟨S1024x1, .i32⟩
  | .hbm, ⟨93, _⟩ => ⟨S1024x1x1, .i32⟩
  | .hbm, ⟨94, _⟩ => ⟨S1, .i32⟩
  | .hbm, ⟨95, _⟩ => ⟨S_, .i32⟩
  | .hbm, ⟨96, _⟩ => ⟨S1024x1x1, .i32⟩
  | .hbm, ⟨97, _⟩ => ⟨S1024x1x1, .i1⟩
  | .hbm, ⟨98, _⟩ => ⟨S1x1x1, .i32⟩
  | .hbm, ⟨99, _⟩ => ⟨S1024x1x1, .i32⟩
  | .hbm, ⟨100, _⟩ => ⟨S1024x1x1, .i1⟩
  | .hbm, ⟨101, _⟩ => ⟨S1024x1x1, .i1⟩
  | .hbm, ⟨102, _⟩ => ⟨S_, .i1⟩
  | .hbm, ⟨103, _⟩ => ⟨S1024x1, .i1⟩
  | .hbm, ⟨104, _⟩ => ⟨S1024x1, .f32⟩
  | .hbm, ⟨105, _⟩ => ⟨S_, .f32⟩
  | .hbm, ⟨106, _⟩ => ⟨S1024x1, .f32⟩
  | .hbm, ⟨107, _⟩ => ⟨S1024x1, .f32⟩
  | .hbm, ⟨108, _⟩ => ⟨S1024, .f32⟩
  | .hbm, ⟨109, _⟩ => ⟨S1024, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_11 : Ref sig .tc := ⟨.hbm, 48, rfl⟩
abbrev main_v28 : Ref sig .tc := ⟨.hbm, 49, rfl⟩
abbrev main_v29 : Ref sig .tc := ⟨.hbm, 50, rfl⟩
abbrev main_c_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_14 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_call2_cst : Ref sig .tc := ⟨.hbm, 70, rfl⟩
abbrev main_call2_v0 : Ref sig .tc := ⟨.hbm, 71, rfl⟩
abbrev main_call2_cst_0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_cst_1 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_v45 : Ref sig .tc := ⟨.hbm, 84, rfl⟩
abbrev main_v46 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_16 : Ref sig .tc := ⟨.hbm, 110, rfl⟩
abbrev main_v50 : Ref sig .tc := ⟨.hbm, 111, rfl⟩
abbrev main_cst_17 : Ref sig .tc := ⟨.hbm, 112, rfl⟩
abbrev main_v51 : Ref sig .tc := ⟨.hbm, 113, rfl⟩

abbrev nD : Nat := 1
abbrev τ : Topo := Topo.v7x

variable {F : FTy → Type} [FloatOps F]
-- ==== Proof.Targets.lean ====
/-
  The precondition on the targets, read word by word: each is a class, as a natural number below 100000.
-/
module

public import proofs.«01_k».proof.Proof.Gen.Pre_in_range
public import Idealize.ShloMosaic.Lib.ReduceAll

@[expose] public section

namespace Cert.Proof

open Idealize.ShloMosaic

variable {F : FTy → Type} [FloatOps F]

/-- A word between 0 and 99999 as a signed number is a natural number below 100000. -/
theorem target_of_cmp (v : BitVec 32) (e : IntOp.andi (IntOp.cmpi .sge v 0#32) (IntOp.cmpi .slt v 100000#32) = 1#1) : v.toNat < 100000 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_in_range.S_.Idx := ⟨fun a b => funext fun i => i.elim0⟩

/-- The precondition makes every target a class. -/
theorem target_lt (x : FVec F Cert.Pre_in_range.S1024x100000 .f32) (t : IVec Cert.Pre_in_range.S1024 32)
    (h : haveI := Cert.Pre_in_range.Gen.facts; Cert.Pre_in_range.fn (F := F) x t = fun _ => 1#1) (j : Cert.Pre_in_range.S1024.Idx) : (t j).toNat < 100000 := by
  have e := congrFun h (fun i => i.elim0)
  simp only [Cert.Pre_in_range.fn] at e
  have e' := Host.reduce_andi_all _ _ _ _ _ e j
  simp only [andi, cmpi, broadcastInDim, constantI] at e'
  exact target_of_cmp _ e'

end Cert.Proof
-- ==== Proof.Word.lean ====
/-
  The word a gathering tile computes for one row: where the logit of class `t` of batch row `b` lies in the flattened,
  tile-ordered logits. The tile computes it with shifts and masks on 32-bit words; here it is the quotient/remainder
  expression over the naturals, and a position of the flat array.
-/
module

public import Idealize.ShloMosaic.PureOps
public import Idealize.ShloMosaic.Lib.Tactic

@[expose] public section

noncomputable section

namespace Cert.Proof.Word

open Idealize.ShloMosaic

/-- The word computed for batch row `b` and class `t`, operation by operation. -/
def word (b t : BitVec 32) : BitVec 32 :=
  IntOp.addi (IntOp.shli .vector (IntOp.addi (IntOp.addi (IntOp.shli .vector (IntOp.shrsi .vector t 3#32) 6#32)
    (IntOp.shli .vector (IntOp.shrsi .vector b 7#32) 3#32)) (IntOp.andi t 7#32)) 7#32) (IntOp.andi b 127#32)

/-- The position of batch row `b`, class `t`: the tiles of eight classes by 128 rows one after the other. -/
def pos (b t : ℕ) : ℕ := (t / 8 * 64 + b / 128 * 8 + t % 8) * 128 + b % 128

/-- A position of a class below 100000 and a row below 1024 lies in the flat array. -/
theorem pos_lt {b t : ℕ} (hb : b < 1024) (ht : t < 100000) : pos b t < 102400000 := by unfold pos; omega

/-- A right shift of a word that is not negative divides. -/
theorem shrsi_toNat {x : BitVec 32} (h : x.toNat < 2 ^ 31) (k : ℕ) (hk : k < 32) :
    (IntOp.shrsi .vector x (BitVec.ofNat 32 k)).toNat = x.toNat / 2 ^ k := by
  have hk' : (BitVec.ofNat 32 k).toNat = k := by rw [BitVec.toNat_ofNat]; omega
  have hm : x.msb = false := by rw [BitVec.msb_eq_false_iff_two_mul_lt]; omega
  unfold IntOp.shrsi
  rw [hk', if_pos hk, BitVec.sshiftRight', hk', BitVec.sshiftRight_eq_of_msb_false hm, BitVec.toNat_ushiftRight,
    Nat.shiftRight_eq_div_pow]

/-- A left shift multiplies, where the product fits the word. -/
theorem shli_toNat {x : BitVec 32} (k : ℕ) (hk : k < 32) (h : x.toNat * 2 ^ k < 2 ^ 32) :
    (IntOp.shli .vector x (BitVec.ofNat 32 k)).toNat = x.toNat * 2 ^ k := by
  have hk' : (BitVec.ofNat 32 k).toNat = k := by rw [BitVec.toNat_ofNat]; omega
  unfold IntOp.shli
  rw [hk', if_pos hk, BitVec.shiftLeft_eq', hk', BitVec.toNat_shiftLeft, Nat.shiftLeft_eq, Nat.mod_eq_of_lt h]

/-- A mask of low ones takes the remainder. -/
theorem andi_toNat (x : BitVec 32) (k : ℕ) (hk : k < 32) :
    (IntOp.andi x (BitVec.ofNat 32 (2 ^ k - 1))).toNat = x.toNat % 2 ^ k := by
  unfold IntOp.andi
  have h2 : 2 ^ k ≤ 2 ^ 31 := Nat.pow_le_pow_right (by omega) (by omega)
  rw [BitVec.toNat_and, BitVec.toNat_ofNat, Nat.mod_eq_of_lt (show 2 ^ k - 1 < 2 ^ 32 by omega), Nat.and_two_pow_sub_one_eq_mod]

/-- A sum that fits the word is the sum. -/
theorem addi_toNat {x y : BitVec 32} (h : x.toNat + y.toNat < 2 ^ 32) : (IntOp.addi x y).toNat = x.toNat + y.toNat := by
  unfold IntOp.addi; rw [BitVec.toNat_add, Nat.mod_eq_of_lt h]

/-- The word is the position. -/
theorem word_toNat {b t : BitVec 32} (hb : b.toNat < 1024) (ht : t.toNat < 100000) : (word b t).toNat = pos b.toNat t.toNat := by
  have e1 := shrsi_toNat (x := t) (by omega) 3 (by omega)
  have e2 := shli_toNat (x := IntOp.shrsi .vector t 3#32) 6 (by omega) (by rw [e1]; omega)
  have e3 := shrsi_toNat (x := b) (by omega) 7 (by omega)
  have e4 := shli_toNat (x := IntOp.shrsi .vector b 7#32) 3 (by omega) (by rw [e3]; omega)
  have e5 : (IntOp.andi t 7#32).toNat = t.toNat % 2 ^ 3 := andi_toNat t 3 (by omega)
  have e6 : (IntOp.andi b 127#32).toNat = b.toNat % 2 ^ 7 := andi_toNat b 7 (by omega)
  rw [e1] at e2; rw [e3] at e4
  have a1 := addi_toNat (x := IntOp.shli .vector (IntOp.shrsi .vector t 3#32) 6#32) (y := IntOp.shli .vector (IntOp.shrsi .vector b 7#32) 3#32)
    (by rw [e2, e4]; omega)
  rw [e2, e4] at a1
  have a2 := addi_toNat (x := IntOp.addi (IntOp.shli .vector (IntOp.shrsi .vector t 3#32) 6#32) (IntOp.shli .vector (IntOp.shrsi .vector b 7#32) 3#32))
    (y := IntOp.andi t 7#32) (by rw [a1, e5]; omega)
  rw [a1, e5] at a2
  have e7 := shli_toNat (x := IntOp.addi (IntOp.addi (IntOp.shli .vector (IntOp.shrsi .vector t 3#32) 6#32)
    (IntOp.shli .vector (IntOp.shrsi .vector b 7#32) 3#32)) (IntOp.andi t 7#32)) 7 (by omega) (by rw [a2]; omega)
  rw [a2] at e7
  unfold word
  rw [addi_toNat (by rw [e7, e6]; omega), e7, e6]
  unfold pos; omega

/-- The word of a row below 1024 and a class below 100000 names an element of the flat array. -/
theorem word_lt {b t : BitVec 32} (hb : b.toNat < 1024) (ht : t.toNat < 100000) : (word b t).toNat < 102400000 := by
  rw [word_toNat hb ht]; exact pos_lt hb ht

end Cert.Proof.Word

end
-- ==== Proof.KernelIdeal.Setup.lean ====
/-
  The launch as the library sees it: one gathering call on two SparseCores of sixteen tiles, then one pipelined region on
  the TensorCore. The ghost state (the handshakes', the pipeline's, the transfers' counters), the arrays the call takes,
  how they are dealt over the 32 tiles, and what each tile brings back: its 32 rows of the result, at the gathered logits.
-/
module

public import proofs.«01_k».proof.Defs
public import proofs.«01_k».proof.Proof.Word
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Word

variable {F : FTy → Type}

/-! ## The program -/

/-- The labels of the region and its pipeline. -/
abbrev ΛP : Labels := Pipeline.Sig Λ₀ (Fin 1) fun p => (pcfgs (F := F) p).Adm
/-- The launch configuration of the gathering call. -/
abbrev K : SparseCore.Cfg τ sig (ΛP (F := F)) 1 := sc (F := F)
/-- The body table under the launch. -/
abbrev D [FloatOps F] : Defs nD τ sig (Elt F) (ΛP (F := F)) := Pipeline.defs pcfgs defs₀
/-- No kernel of the program calls another. -/
abbrev 𝒱₀ : Variants := Variants.none
/-- The variants with the pipeline's loop. -/
abbrev 𝒱 : Variants := 𝒱₀.lift
/-- The variant the tiles run at. -/
abbrev v₀ : 𝒱.V := Sum.inl none

/-- The call uses two SparseCores. -/
theorem nCore_zero : (K (F := F)).nCore 0 = 2 := rfl
/-- The call uses sixteen tiles of each. -/
theorem nSub_zero : (K (F := F)).nSub 0 = 16 := rfl

/-- The decidable facts of the launch's semaphores and shared buffers. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The ghost state -/

/-- The handshakes' rounds. -/
abbrev UH : Type := URounds (GSem nD τ sig) ℕ
/-- The pipeline's rounds. -/
abbrev UP : Type := URounds (GSem nD τ sig) Unit
/-- The handshakes', the pipeline's, the transfers' counters. -/
abbrev UU : Type := UH × (UP × Counters)

local notation "𝕄" => MT nD τ sig (HIx 1) (Elt F) ℕ UU ℕ

/-- Where the handshakes' rounds lie. -/
abbrev EH : Emb UH (MT nD τ sig (HIx 1) (Elt F) ℕ UU ℕ) := embL
/-- Where the pipeline's rounds lie. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
/-- The pipeline's rounds are of the user's algebra. -/
instance EP_landsIn : (EP : Emb UP 𝕄).LandsIn (upEmb : UEmb _ 𝕄) := by unfold EP; infer_instance

/-! ## The arrays of the call -/

/-- The flat logits. -/
abbrev xLoc (d : Dev nD) : Loc nD τ sig := (SparseCore.T d).loc main_v3
/-- The targets. -/
abbrev tLoc (d : Dev nD) : Loc nD τ sig := (SparseCore.T d).loc main_arg1
/-- The gathered logits. -/
abbrev oLoc (d : Dev nD) : Loc nD τ sig := (SparseCore.T d).loc main_v4

/-- 32 parts of 32 rows. -/
theorem odiv : 32 ∣ S1024.size 0 := ⟨32, rfl⟩
/-- Rows `32 w` to `32 w + 31`. -/
abbrev orow (w : Fin 32) : Rect S1024 := Rect.part (s := S1024) (a₀ := 0) odiv w
/-- The tile with number `s` on SparseCore `c` takes part `2 s + c`. -/
abbrev wid (c : Fin 2) (s : Fin 16) : Fin 32 := ⟨2 * s.val + c.val, by omega⟩
/-- Part `w`'s share of what all tiles read. -/
abbrev shr (w : Fin 32) : PosShare TreeShare := ShareLeaves.leaf 5 fullShare w

/-- What the call finds: on each device the flat logits, the targets and the result's old contents. -/
structure Given (F : FTy → Type) where
  /-- The flat logits. -/
  x : (d : Dev nD) → Buf (Elt F) (xLoc d)
  /-- The targets. -/
  t : (d : Dev nD) → Buf (Elt F) (tLoc d)
  /-- The result before. -/
  o : (d : Dev nD) → Buf (Elt F) (oLoc d)

/-- The place of the flat array that row `j`'s word names. -/
def place (t : S1024.Idx → BitVec 32) (j : S1024.Idx) : S102400000.Idx :=
  fun | 0 => ⟨(word (BitVec.ofNat 32 (j 0).val) (t j)).toNat % 102400000, Nat.mod_lt _ (by decide)⟩

/-- The gathered logits: row `j` holds the flat array's element at its word. -/
def gathered (x : S102400000.Idx → Elt F .f32) (t : S1024.Idx → BitVec 32) : S1024.Idx → Elt F .f32 := fun j => x (place t j)

variable (N : Given F)

/-- What device `d`'s result holds after the call. -/
def Given.out (d : Dev nD) : Buf (Elt F) (oLoc d) := gathered (F := F) (N.x d) (N.t d)

/-- The targets are classes. -/
def Given.Ok : Prop := ∀ (d : Dev nD) (j : S1024.Idx), (N.t d j : BitVec 32).toNat < 100000

/-- Part `w` of the flat logits' shares. -/
abbrev xPts (d : Dev nD) (w : Fin 32) : sProp 𝕄 := xLoc d ↦{shr w} N.x d
/-- Part `w` of the targets' shares. -/
abbrev tPts (d : Dev nD) (w : Fin 32) : sProp 𝕄 := tLoc d ↦{shr w} N.t d
/-- Part `w` of the result's rows, at contents `f`. -/
abbrev oPts (d : Dev nD) (w : Fin 32) (f : Buf (Elt F) (oLoc d)) : sProp 𝕄 := oLoc d ↦[(orow w).set]{fullShare} f

/-- What part `w`'s tile takes. -/
abbrev taken (d : Dev nD) (w : Fin 32) : sProp 𝕄 := iprop(xPts N d w ∗ tPts N d w ∗ oPts d w (N.o d))
/-- What part `w`'s tile brings back. -/
abbrev given (d : Dev nD) (w : Fin 32) : sProp 𝕄 := iprop(xPts N d w ∗ tPts N d w ∗ oPts d w (N.out d))

/-- What the handshakes carry: the TensorCore's to a SparseCore its sixteen tiles' parts, a sequencer's to a tile that tile's. -/
def P : (K (F := F)).Pay (nD := nD) (Val := Elt F) (Name := ℕ) (U := UU) where
  st := fun q d => match q with | 0 => fun c => bigSep Finset.univ fun i : Fin 16 => taken N d (wid c i)
  dn := fun q d => match q with | 0 => fun c => bigSep Finset.univ fun i : Fin 16 => given N d (wid c i)
  go := fun q d => match q with | 0 => fun c i => taken N d (wid c i)
  td := fun q d => match q with | 0 => fun c i => given N d (wid c i)
  x := fun _ _ => iprop(emp)

/-- What the handshakes carry can be kept in an invariant. -/
instance P_storable : (P N).IsStorable where
  st q d := match q with
    | 0 => fun c => (inferInstance : BI.Storable (upEmb : UEmb _ 𝕄) (bigSep Finset.univ fun i : Fin 16 => taken N d (wid c i)))
  dn q d := match q with
    | 0 => fun c => (inferInstance : BI.Storable (upEmb : UEmb _ 𝕄) (bigSep Finset.univ fun i : Fin 16 => given N d (wid c i)))
  go q d := match q with
    | 0 => fun c i => (inferInstance : BI.Storable (upEmb : UEmb _ 𝕄) (taken N d (wid c i)))
  td q d := match q with
    | 0 => fun c i => (inferInstance : BI.Storable (upEmb : UEmb _ 𝕄) (given N d (wid c i)))

/-- A SparseCore's parts are its tiles' parts: nothing to cut. -/
theorem vecSplit : (K (F := F)).VecSplit' (P N) 0 := by
  intro d c
  show (bigSep Finset.univ fun i : Fin 16 => taken N d (wid c i)) ⊢ |={Set.univ}=> iprop(
      (bigSep Finset.univ fun i : Fin 16 => taken N d (wid c i))
      ∗ ((bigSep Finset.univ fun i : Fin 16 => given N d (wid c i)) -∗ bigSep Finset.univ fun i : Fin 16 => given N d (wid c i)))
  iintro H; imodintro
  isplitl [H]; · iexact H
  iintro H; iexact H

end Cert.Proof.OfKernelIdeal

end
-- ==== Proof.KernelIdeal.Tile.lean ====
/-
  One gathering tile, at a symbolic (SparseCore, tile) pair: it fetches its 32 targets, computes the 32 words, gathers the
  flat logits at them and writes its 32 rows of the result out. Every word is in range because every target is a class.
-/
module

public import proofs.«01_k».proof.Proof.KernelIdeal.Setup
public import Idealize.ShloMosaic.Lib.WritesUnit
public import Idealize.ShloMosaic.Lib.Pipeline.Value

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Word

variable {F : FTy → Type} [FloatOps F] (N : Given F)

local notation "𝕄" => MT nD τ sig (HIx 1) (Elt F) ℕ UU ℕ
/-- The flat logits, whole. -/
abbrev xV : Memref sig .scVector .hbm S102400000 .f32 := Memref.whole main_v3_scv
/-- The targets, whole. -/
abbrev tV : Memref sig .scVector .hbm S1024 .i32 := Memref.whole main_arg1_scv
/-- The result, whole. -/
abbrev oV : Memref sig .scVector .hbm S1024 .f32 := Memref.whole main_v4_scv
/-- The fetched targets. -/
abbrev fetV : Memref sig .scVector .vmem S32 .i32 := Memref.whole cc0_scratch0
/-- The words. -/
abbrev lstV : Memref sig .scVector .vmem S32 .i32 := Memref.whole cc0_scratch1
/-- The gathered rows. -/
abbrev rowV : Memref sig .scVector .vmem S32 .f32 := Memref.whole cc0_scratch2

section Tile

variable (d : Dev nD) (L : grid0.Coords)

/-- The SparseCore the tile is on. -/
abbrev cV (L : grid0.Coords) : Fin τ.nSC := (L 0).castLE hcore0
/-- The tile's number on it. -/
abbrev jV (L : grid0.Coords) : Fin τ.nSub := (L 1).castLE hsub0
/-- The tile's thread. -/
abbrev thr (d : Dev nD) (L : grid0.Coords) : Thread nD τ := V d (cV L) (jV L)
/-- The tile's part. -/
abbrev widL (L : grid0.Coords) : Fin 32 := wid (show Fin 2 from L 0) (show Fin 16 from L 1)

/-- The tile's 32 rows, as its body addresses them. -/
abbrev rowsK (L : grid0.Coords) : Rect S1024 := Rect.unit (s := S1024) (k0_off1 L) S32.size (k0_off1_inb L)
/-- The tile's targets. -/
abbrev tK (L : grid0.Coords) : Memref sig .scVector .hbm S32 .i32 := tV.slice (rowsK L) (fun _ => rfl)
/-- The tile's rows of the result. -/
abbrev oK (L : grid0.Coords) : Memref sig .scVector .hbm S32 .f32 := oV.slice (rowsK L) (fun _ => rfl)
/-- The flat logits, as the gather addresses them. -/
abbrev xK : Memref sig .scVector .hbm S102400000 .f32 :=
  xV.slice (Rect.unit (s := S102400000) ![0] S102400000.size inb_S102400000_S102400000_0) (fun _ => rfl)

/-- The rows the body addresses are the part's. -/
theorem rowsK_eq : rowsK L = orow (widL L) := by
  unfold rowsK orow Rect.part Rect.block
  congr 1 <;> funext a
  · rw [k0_off1_eq]
    match a with
    | 0 => simp [Shape.partIx, Shape.partSize]; omega
  · match a with
    | 0 => simp [Shape.partSize]

/-- The elements of the tile's rows of the result are the part's rows. -/
theorem set_oK : (oK L).view.set = (orow (widL L)).set := by
  show ((View.whole main_v4_scv).slice (rowsK L)).set = _
  rw [View.set_slice, rowsK_eq]; exact Finset.map_refl

/-- The part's rows of the result, as the tile holds them. -/
theorem pts_oK (f : Buf (Elt F) (oLoc d)) : ((oK L).view.loc (thr d L) ↦[(oK L).view.set]{fullShare} f : sProp 𝕄) = oPts d (widL L) f := by
  rw [set_oK]
/-- The part's share of the flat logits, as the tile holds it. -/
theorem pts_xV (q : PosShare TreeShare) (f : Buf (Elt F) (xLoc d)) : (xV.view.loc (thr d L) ↦{q} f : sProp 𝕄) = xLoc d ↦{q} f := rfl
/-- The part's share of the targets, as the tile holds it. -/
theorem pts_tV (q : PosShare TreeShare) (f : Buf (Elt F) (tLoc d)) : (tV.view.loc (thr d L) ↦{q} f : sProp 𝕄) = tLoc d ↦{q} f := rfl
/-- The buffer of fetched targets. -/
theorem pts_fet (f : Buf (Elt F) ((thr d L).loc cc0_scratch0)) :
    (fetV.view.loc (thr d L) ↦{fullShare} f : sProp 𝕄) = (thr d L).loc cc0_scratch0 ↦{fullShare} f := rfl
/-- The buffer of words. -/
theorem pts_lst (f : Buf (Elt F) ((thr d L).loc cc0_scratch1)) :
    (lstV.view.loc (thr d L) ↦{fullShare} f : sProp 𝕄) = (thr d L).loc cc0_scratch1 ↦{fullShare} f := rfl
/-- The buffer of gathered rows. -/
theorem pts_row (f : Buf (Elt F) ((thr d L).loc cc0_scratch2)) :
    (rowV.view.loc (thr d L) ↦{fullShare} f : sProp 𝕄) = (thr d L).loc cc0_scratch2 ↦{fullShare} f := rfl

/-- The fetch's semaphore. -/
abbrev cellA (d : Dev nD) (L : grid0.Coords) : GSem nD τ sig := (thr d L, .dma cc0_scoped0.sem)
/-- The write-out's semaphore. -/
abbrev cellB (d : Dev nD) (L : grid0.Coords) : GSem nD τ sig := (thr d L, .dma cc0_scoped1.sem)
/-- The gather's semaphore. -/
abbrev cellG (d : Dev nD) (L : grid0.Coords) : GSem nD τ sig := (thr d L, .dma cc0_scratch3.sem)

/-- The three semaphores are among the tile's own. -/
theorem ownSems0_V :
    (ownSems0 (thr d L) : sProp 𝕄)
      = iprop(semVal (cellA d L) 0 ∗ semVal (cellB d L) 0 ∗ semVal (cellG d L) 0
          ∗ bigSep ((((ownCells (thr d L)).erase (cellA d L)).erase (cellB d L)).erase (cellG d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scoped1.sem : SemLoc sig).isScoped .scVector = true; decide⟩⟩),
    SparseCore.bigSep_erase' (Finset.mem_erase.mpr ⟨by simp [cellB, cellG]; decide, Finset.mem_erase.mpr ⟨by simp [cellA, cellG]; decide,
      (mem_ownCells (g := cellG d L)).mpr ⟨rfl, by show (SemLoc.dma cc0_scratch3.sem : SemLoc sig).isScoped .scVector = true; decide⟩⟩⟩)]

/-- A scratch buffer of a tile, by its processor's name for it. -/
abbrev ownRef (L : grid0.Coords) (b : Ref sig .scVector) : DevRef τ sig := (Proc.scVector (cV L) (jV L)).devRef b

/-- The three scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (ownRef L cc0_scratch0)).erase (ownRef L cc0_scratch1)).erase (ownRef L cc0_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := ownRef L cc0_scratch0) rfl
  have m1 := SparseCore.Cfg.mem_ownRefs_of_owner (p := Proc.scVector (cV L) (jV L)) (b := ownRef L cc0_scratch1) rfl
  have m2 := SparseCore.Cfg.mem_ownRefs_of_owner (p := Proc.scVector (cV L) (jV L)) (b := ownRef L cc0_scratch2) rfl
  have n10 : ownRef L cc0_scratch1 ≠ ownRef L cc0_scratch0 := fun e =>
    absurd (Proc.devRef_injective _ e) (show (cc0_scratch1 : Ref sig .scVector) ≠ cc0_scratch0 by decide)
  have n20 : ownRef L cc0_scratch2 ≠ ownRef L cc0_scratch0 := fun e =>
    absurd (Proc.devRef_injective _ e) (show (cc0_scratch2 : Ref sig .scVector) ≠ cc0_scratch0 by decide)
  have n21 : ownRef L cc0_scratch2 ≠ ownRef L cc0_scratch1 := fun e =>
    absurd (Proc.devRef_injective _ e) (show (cc0_scratch2 : Ref sig .scVector) ≠ cc0_scratch1 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-- The batch row of the tile's `y`-th target. -/
abbrev rowAt (L : grid0.Coords) (y : S32.Idx) : S1024.Idx := (rowsK L).emb y

/-- It is 64 times the tile's number, 32 times its SparseCore's, and `y`. -/
theorem rowAt_val (L : grid0.Coords) (y : S32.Idx) : (rowAt L y 0).val = 64 * (L 1).val + 32 * (L 0).val + (y 0).val := by
  show k0_off1 L 0 + 1 * (y 0).val = _
  rw [k0_off1_eq, Nat.one_mul]; rfl

/-- A batch row's number as the tile computes it, counted from `a`. -/
theorem base_word (L : grid0.Coords) (a k : ℕ) (y : S32.Idx) (ha : a < 32) (hk : k < 16) (hy : (y 0).val = a + k) :
    IntOp.addi (Scalar.addi (Scalar.muli (Scalar.addi (Scalar.muli (BitVec.ofNat 32 (L 1).val) 2#32) (BitVec.ofNat 32 (L 0).val)) 32#32)
      (BitVec.ofNat 32 a)) (BitVec.ofNat 32 k) = BitVec.ofNat 32 (rowAt L y 0).val := by
  have h0 : (L 0).val < 2 := (L 0).isLt
  have h1 : (L 1).val < 16 := (L 1).isLt
  rw [rowAt_val, hy]
  apply BitVec.eq_of_toNat_eq
  simp only [Scalar.addi, Scalar.muli, IntOp.addi, IntOp.muli, BitVec.toNat_add, BitVec.toNat_mul, BitVec.toNat_ofNat]
  omega

/-- The words the tile leaves in its list: for each of its rows, the word of that row and its target. -/
theorem list_at (f0 : Buf (Elt F) ((thr d L).loc cc0_scratch0)) (f1 : Buf (Elt F) ((thr d L).loc cc0_scratch1)) (y : S32.Idx)
    (A : (r : Rect S32) → r.shape.Idx → Elt F .i32)
    (hA : A = fun (r : Rect S32) => fetV.view.readAt (Elt F) r.toLoadRect (fetV.view.write (Elt F) f0 ((tK L).view.read (Elt F) (N.t d)) Finset.univ)) :
    lstV.view.read (Elt F) (lstV.view.writes (Elt F) f1
      [⟨Rect.unit ![16] ![16] inb_S32_S16_16, k0_pay1 (k0_pay3 (F := F) (A (Rect.unit (s := S32) ![16] S16.size inb_S32_S16_16))) (k0_pay4 L) k0_pay5⟩,
       ⟨Rect.unit ![0] S16.size inb_S32_S16_0, k0_pay2 (F := F) L (A (Rect.unit (s := S32) ![0] S16.size inb_S32_S16_0))⟩]) y
      = word (BitVec.ofNat 32 (rowAt L y 0).val) (N.t d (rowAt L y)) := by
  have hAat : ∀ (r : Rect S32) (x : r.shape.Idx), A r x = N.t d (rowAt L (r.emb x)) := by
    intro r x
    rw [hA, View.write_whole_univ]
    show (tK L).view.read (Elt F) (N.t d) (r.emb x) = _
    exact (View.read_apply _ _).trans (cast_eq _ _)
  have hy32 : (y 0).val < 32 := (y 0).isLt
  by_cases hy : (y 0).val < 16
  · rw [View.read_writes_cons_unit_of_not_mem _ _ _ _ _ y rfl 0 (Or.inl hy)]
    let x : S16.Idx := fun | 0 => ⟨(y 0).val, hy⟩
    refine (View.read_writes_cons_unit_of_mem (s := S32) (off' := ![0]) (size := S16.size) _ _ _ _ _ y x rfl (fun | 0 => by show (y 0).val = 0 + (y 0).val; omega)).trans ?_
    have hx : (Rect.unit (s := S32) ![0] S16.size inb_S32_S16_0).emb x = y := funext fun | 0 => Fin.ext (by show 0 + 1 * (y 0).val = _; omega)
    have hw := base_word L 0 (y 0).val y (by omega) hy (by omega)
    have hi : iota .scVector S16 32 [0] iota_S16_d0_w32_scVector x = BitVec.ofNat 32 (y 0).val := by
      show BitVec.ofNat 32 (0 * 16 + (y 0).val) = _; rw [Nat.zero_mul, Nat.zero_add]
    unfold k0_pay2 word
    simp only [shapeCast_self, addi, shli, shrsi, andi, broadcast, hi, hAat, hx]
    rw [hw]
  · let x : S16.Idx := fun | 0 => ⟨(y 0).val - 16, show (y 0).val - 16 < 16 by omega⟩
    refine (View.read_writes_cons_unit_of_mem (s := S32) (off' := ![16]) (size := S16.size) _ _ _ _ _ y x rfl
      (fun | 0 => by show (y 0).val = 16 + ((y 0).val - 16); omega)).trans ?_
    have hx : (Rect.unit (s := S32) ![16] S16.size inb_S32_S16_16).emb x = y :=
      funext fun | 0 => Fin.ext (by show 16 + 1 * ((y 0).val - 16) = _; omega)
    have hw := base_word L 16 ((y 0).val - 16) y (by omega) (by omega) (by omega)
    have hi : iota .scVector S16 32 [0] iota_S16_d0_w32_scVector x = BitVec.ofNat 32 ((y 0).val - 16) := by
      show BitVec.ofNat 32 (0 * 16 + ((y 0).val - 16)) = _; rw [Nat.zero_mul, Nat.zero_add]
    unfold k0_pay1 k0_pay3 k0_pay4 k0_pay5 word
    simp only [shapeCast_self, addi, shli, shrsi, andi, broadcast, hi, hAat, hx]
    rw [hw]

/-- Every word of the list names an element of the flat array. -/
theorem list_lt (hok : N.Ok) (f0 : Buf (Elt F) ((thr d L).loc cc0_scratch0)) (f1 : Buf (Elt F) ((thr d L).loc cc0_scratch1)) (w : S32.Idx → BitVec 32)
    (hw : ∀ y, w y = word (BitVec.ofNat 32 (rowAt L y 0).val) (N.t d (rowAt L y))) :
    ∀ y, (w y).toNat < S102400000.size gathers_S102400000_S32.axis := by
  intro y
  rw [hw y]
  have hb : (BitVec.ofNat 32 (rowAt L y 0).val).toNat < 1024 := by
    rw [BitVec.toNat_ofNat]; exact lt_of_le_of_lt (Nat.mod_le _ _) (rowAt L y 0).isLt
  exact word_lt hb (hok d _)

/-- What the gather lands, at its `y`-th row: the gathered logit of that batch row. -/
theorem landed_at (hok : N.Ok) (w : S32.Idx → Elt F .i32) (hw : ∀ y, w y = word (BitVec.ofNat 32 (rowAt L y 0).val) (N.t d (rowAt L y)))
    (hn : S32.numel = S32.size gathers_S102400000_S32.axis') (hin : ∀ y, (w y : BitVec 32).toNat < S102400000.size gathers_S102400000_S32.axis) (y : S32.Idx) :
    SparseCore.gatherPayload gathers_S102400000_S32 (xK.view.read (Elt F) (N.x d)) (SparseCore.rows w hn hin) y = N.out d (rowAt L y) := by
  show xK.view.read (Elt F) (N.x d) _ = N.x d (place (N.t d) (rowAt L y))
  refine ((View.read_apply _ _).trans (cast_eq _ _)).trans (congrArg (N.x d) (funext fun | 0 => Fin.ext ?_))
  have hy : S32.rowMajor.symm ((y gathers_S102400000_S32.axis').cast hn.symm) = y := by
    rw [Equiv.symm_apply_eq]; apply Fin.ext
    exact (Shape.rowMajor_val_one y).symm
  have h1 : (w y : BitVec 32).toNat < 102400000 := hin y
  show 0 + 1 * (gathers_S102400000_S32.idx (SparseCore.rows w hn hin) y gathers_S102400000_S32.axis).val
    = (word (BitVec.ofNat 32 (rowAt L y 0).val) (N.t d (rowAt L y))).toNat % 102400000
  rw [Shape.Gathers.idx_axis, ← hw y, Nat.mod_eq_of_lt h1, Nat.zero_add, Nat.one_mul]
  show (w (S32.rowMajor.symm ((y gathers_S102400000_S32.axis').cast hn.symm))).toNat = _
  rw [hy]

/-- The tile's rows of the result, written with the gathered logits, hold the result's. -/
theorem rows_at (o : Buf (Elt F) (oLoc d)) (p : S32.Idx → Elt F .f32) (hp : ∀ y, p y = N.out d (rowAt L y)) :
    ∀ i ∈ (oK L).view.set, (oK L).view.writes (Elt F) o [⟨Rect.whole S32, p⟩] i = N.out d i := by
  intro i hi
  obtain ⟨y, -, rfl⟩ := Finset.mem_map.mp hi
  have h := congrFun (View.read_writes_whole (oK L).view o p) y
  rw [View.read_apply] at h
  exact ((cast_eq _ _).symm.trans h).trans (hp y)

set_option maxHeartbeats 400000 in
/-- The tile's body brings back its 32 rows at the gathered logits. -/
theorem tile_body (hF : (K (F := F)).Facts) (hok : N.Ok) (O : CellTallies nD τ sig (HIx 1)) (W : Waits sig (HIx 1)) (hO : ∀ g, O g none = 0) :
    iprop(levAts (K (F := F)).L (K (F := F)).lev ∗ emp ∗ taken N d (widL L)
        ∗ scopedBufs (thr d L) ∗ scopedSems0 (thr d L) ∗ owes (thr d L) O W)
      ⊢ wp frame (wpE (defs₀ (F := F)) 𝒱₀ (thr d L) none) Set.univ
          (cc0__gather_kernel L xV (Memref.isWhole_whole _) tV (Memref.isWhole_whole _) oV (Memref.isWhole_whole _)
            fetV (Memref.isWhole_whole _) lstV (Memref.isWhole_whole _) rowV (Memref.isWhole_whole _) cc0_scratch3 cc0_scoped0 cc0_scoped1)
          fun _ => iprop(given N d (widL L) ∗ scopedBufs (thr d L) ∗ scopedSems0 (thr d L)
            ∗ ∃ W', ⌜∀ p ∈ W', p ∈ W ∨ p.2 = none⌝ ∗ owes (thr d L) O W') := by
  simp only [cc0__gather_kernel_eq_skeleton]; unfold cc0__gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hx, Ht, Ho⟩, ⟨⟨%f0, H0⟩, ⟨%f1, H1⟩, ⟨%f2, H2⟩, Hbufs⟩, ⟨HsemA, HsemB, HsemG, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (pts_oK (F := F) d L _).symm) $$ Ho
  ihave Hx' := (Entails.of_eq (pts_xV (F := F) d L _ _).symm) $$ Hx
  ihave Ht' := (Entails.of_eq (pts_tV (F := F) d L _ _).symm) $$ Ht
  ihave H0' := (Entails.of_eq (pts_fet (F := F) d L _).symm) $$ H0
  ihave H1' := (Entails.of_eq (pts_lst (F := F) d L _).symm) $$ H1
  ihave H2' := (Entails.of_eq (pts_row (F := F) d L _).symm) $$ H2
  sl_exec
  have hlist : ∀ y, lstV.view.read (Elt F) (lstV.view.writes (Elt F) lstV.view.junk (tile_body.sl.H1'_2 N d L f0)) y
      = word (BitVec.ofNat 32 (rowAt L y 0).val) (N.t d (rowAt L y)) := fun y => list_at N d L f0 _ y (fun (r : Rect S32) => fetV.view.readAt (Elt F) r.toLoadRect (fetV.view.write (Elt F) f0 ((tK L).view.read (Elt F) (N.t d)) Finset.univ)) rfl
  have hin := list_lt N d L hok f0 f1 _ hlist
  ihave Hxs := (pointsTo_split_subset (q := shr (widL L)) (f := N.x d) (S := Finset.univ) (Finset.subset_univ (xK).view.set)).1 $$ Hx'
  icases Hxs with ⟨Hxs, Hxr⟩
  have hr : rowV.view.set = Finset.univ := View.set_whole _
  have hl : lstV.view.set = Finset.univ := View.set_whole _
  ihave H2s := (Entails.of_eq (show (rowV.view.loc (thr d L) ↦{fullShare} f2 : sProp 𝕄)
      = rowV.view.loc (thr d L) ↦[rowV.view.set]{fullShare} f2 by rw [hr])) $$ H2'
  ihave H1s := (Entails.of_eq (show (lstV.view.loc (thr d L) ↦{fullShare} lstV.view.writes (Elt F) lstV.view.junk (tile_body.sl.H1'_2 N d L f0) : sProp 𝕄)
      = lstV.view.loc (thr d L) ↦[lstV.view.set]{fullShare} lstV.view.writes (Elt F) lstV.view.junk (tile_body.sl.H1'_2 N d L f0) by rw [hl])) $$ H1'
  have hN : ∀ h : S102400000.Gathers 0 S32, ∑ j, (rowV.slice (S32.rowRect h.axis' j) (S32.stride_rowRect h.axis' j)).view.dmaCredit
      = rowV.view.dmaCredit := by decide
  iapply (SparseCore.wp_indirectGatherLocal countersEmb 𝒱₀ (thr d L) none (hg := gathers_S102400000_S32) (default : HIx 1)
      rowV.view.dmaCredit (hN _) (by decide) hin) $$ [Hxs H2s H1s HsemG]
  · isplitl [Hxs]; · iexact Hxs
    isplitl [H2s]; · iexact H2s
    isplitl [H1s]; · iexact H1s
    iexact HsemG
  iintro Hfl
  sl_exec
  iapply (Transfers.wp_waitLocalO countersEmb 𝒱₀ (thr d L) none (default : HIx 1) (rfl : rowV.view.dmaCredit = _)) $$ [Hfl HO]
  · isplitl [Hfl]; · iexact Hfl
    isplitl [HO]; · iexact HO
    iapply (Transfers.MayWaits.elim (SemLoc.dma cc0_scratch3.sem)) $$ Hmw
  iintro ⟨⟨H2s, Hxs, H1s⟩, HsemG, HO⟩
  ihave Hx' := (pointsTo_split_subset (q := shr (widL L)) (f := N.x d) (S := Finset.univ) (Finset.subset_univ (xK).view.set)).2 $$ [Hxs Hxr]
  · isplitl [Hxs] <;> iassumption
  ihave H2' := (Entails.of_eq (show (rowV.view.loc (thr d L) ↦[rowV.view.set]{fullShare} _ : sProp 𝕄)
      = rowV.view.loc (thr d L) ↦{fullShare} _ by rw [hr])) $$ H2s
  ihave H1' := (Entails.of_eq (show (lstV.view.loc (thr d L) ↦[lstV.view.set]{fullShare} _ : sProp 𝕄)
      = lstV.view.loc (thr d L) ↦{fullShare} _ by rw [hl])) $$ H1s
  sl_exec
  sl_step
  have hp : ∀ y, tile_body.sl.dma0_1 N d L f0 f2 hin y = N.out d (rowAt L y) := by
    intro y
    unfold tile_body.sl.dma0_1
    refine Eq.trans ?_ (landed_at N d L hok _ hlist rfl hin y)
    exact congrFun (View.read_write_univ (v := rowV.view) f2 _) y
  isplitl [Ho' Hx' Ht']
  · isplitl [Hx']; · iexact Hx'
    isplitl [Ht']; · iexact Ht'
    iapply (Entails.of_eq (pts_oK (F := F) d L _))
    iapply (Entails.of_eq (pointsTo_congr (rows_at N d L _ _ hp))); iexact Ho'
  isplitl [H0' H1' H2' Hbufs]
  · isplitl [H0']; · iexists _; iexact H0'
    isplitl [H1']; · iexists _; iexact H1'
    isplitl [H2']; · iexists _; iexact H2'
    iexact Hbufs
  isplitl [HsemA HsemB HsemG Hsems]
  · isplitl [HsemA]; · iexact HsemA
    isplitl [HsemB]; · iexact HsemB
    isplitl [HsemG]; · iexact HsemG
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The call's obligation -/

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- The call's body is the gathering kernel on each tile of the grid. -/
theorem defs₀_vector (c : Fin τ.nSC) (s : Fin τ.nSub) :
    defs₀ (F := F) (.scVector c s) 0 ()
      = SparseCore.onTile hcore0 hsub0 (fun c s => cc0__gather_kernel (coordsV c s)
          xV (Memref.isWhole_whole _) tV (Memref.isWhole_whole _) oV (Memref.isWhole_whole _)
          fetV (Memref.isWhole_whole _) lstV (Memref.isWhole_whole _) rowV (Memref.isWhole_whole _) cc0_scratch3 cc0_scoped0 cc0_scoped1) ⟨⟩ c s := rfl

/-- Waits at no handshake are within what a task may record. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call does its part. -/
theorem tileObl (hF : (K (F := F)).Facts) (hok : N.Ok) : (K (F := F)).TileObl (D (F := F)) 𝒱 (P N) v₀ 0 := by
  intro d c i O W hO _ _
  simp only [show (P N).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body N d (coordsV ⟨_, hci.1⟩ ⟨_, hci.2⟩) hF hok O W hO).trans (wp_mono frame _ _ fun _ => obl_post)

end Tile

end Cert.Proof.OfKernelIdeal

end
-- ==== Proof.KernelIdeal.Block.lean ====
/-
  One grid point of the streaming kernel, over arbitrary staging contents: at the first point it computes the margin
  row from the gathered logits and clears the accumulator; at every point it stores the scaled block with the margin
  row put at each sample's own class, and adds the block's masked exponentials to the accumulator; at the last point it
  stores the loss.
-/
module

public import proofs.«01_k».proof.Proof.KernelIdeal.Tile
public import proofs.«01_k».proof.Proof.Gen.KernelIdeal.Points

@[expose] public section

noncomputable section

namespace Cert.Proof.OfKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- The first grid point, as the kernel tests it. -/
abbrev cond1 (i : grid1.Coords) : BitVec 1 := Scalar.cmpi .ne (Scalar.extui (Scalar.cmpi .eq (BitVec.ofNat 32 (i 0).val) 0#32)) 0#32

/-- The margin row the point works with: computed from the gathered logits at the first point, else as found. -/
def phiAt (i : grid1.Coords) (g s : FVec F S1x1024 .f32) : FVec F S1x1024 .f32 := if cond1 i = 1#1 then k1_pay3 g else s
/-- The accumulator the point adds to: zeros at the first point, else as found. -/
def accAt (i : grid1.Coords) (s : FVec F S1x1024 .f32) : FVec F S1x1024 .f32 := if cond1 i = 1#1 then k1_pay4 else s

/-- A load of a whole two-dimensional buffer reads what the buffer holds. -/
theorem readAt_all {a b : ℕ} {e : EltTy} (v : View sig .tc .vmem ⟨2, ![a, b]⟩ e) (inb : ∀ k, ![0, 0] k + ![a, b] k ≤ (⟨2, ![a, b]⟩ : Shape).size k) (f : v.ty.Contents (Elt F)) :
    v.readAt (Elt F) (Rect.unit (s := ⟨2, ![a, b]⟩) ![0, 0] ![a, b] inb).toLoadRect f = v.read (Elt F) f := by
  funext y
  refine congrArg (v.read (Elt F) f) (funext fun k => Fin.ext ?_)
  show ![0, 0] k + 1 * (y k).val = (y k).val
  fin_cases k <;> simp

/-- After a store over a whole two-dimensional buffer, it holds the stored. -/
theorem read_store_all {a b : ℕ} {e : EltTy} (v : View sig .tc .vmem ⟨2, ![a, b]⟩ e) (inb : ∀ k, ![0, 0] k + ![a, b] k ≤ (⟨2, ![a, b]⟩ : Shape).size k) (f : v.ty.Contents (Elt F))
    (w : (⟨2, ![a, b]⟩ : Shape).Idx → Elt F e) (l : List (View.Piece (Elt F) ⟨2, ![a, b]⟩ e)) :
    v.read (Elt F) (v.writes (Elt F) f (⟨Rect.unit (s := ⟨2, ![a, b]⟩) ![0, 0] ![a, b] inb, w⟩ :: l)) = w := by
  funext y
  exact View.read_writes_cons_unit_of_mem (s := ⟨2, ![a, b]⟩) (off' := ![0, 0]) (size := ![a, b]) _ _ _ _ _ y y rfl
    (fun k => by fin_cases k <;> simp)

/-- A load of the whole buffer after such a store reads the stored. -/
theorem readCov_all {a b : ℕ} {e : EltTy} (v : View sig .tc .vmem ⟨2, ![a, b]⟩ e) (inb : ∀ k, ![0, 0] k + ![a, b] k ≤ (⟨2, ![a, b]⟩ : Shape).size k)
    (w : (⟨2, ![a, b]⟩ : Shape).Idx → Elt F e) (l : List (View.Piece (Elt F) ⟨2, ![a, b]⟩ e)) :
    v.readCov (Val := Elt F) (⟨Rect.unit (s := ⟨2, ![a, b]⟩) ![0, 0] ![a, b] inb, w⟩ :: l) (Rect.unit (s := ⟨2, ![a, b]⟩) ![0, 0] ![a, b] inb).toLoadRect = w :=
  (readAt_all v inb _).trans (read_store_all v inb _ w l)

set_option maxRecDepth 16384 in
set_option maxHeartbeats 1000000 in
/-- The streaming kernel's body on whatever its staging buffers and its two scratch rows hold. -/
theorem block_body (c : Dev nD) (i : grid1.Coords) (m0 : Memref sig .tc .vmem S1x1024 .i32) (h0 : m0.IsWhole)
    (m1 : Memref sig .tc .vmem S1x1024 .f32) (h1 : m1.IsWhole) (m2 : Memref sig .tc .vmem S2560x1024 .f32) (h2 : m2.IsWhole)
    (m3 : Memref sig .tc .vmem S2560x1024 .f32) (h3 : m3.IsWhole) (m4 : Memref sig .tc .vmem S1x1 .f32) (h4 : m4.IsWhole)
    (m5 : Memref sig .tc .vmem S1x1024 .f32) (h5 : m5.IsWhole) (m6 : Memref sig .tc .vmem S1x1024 .f32) (h6 : m6.IsWhole)
    (X0 : S1x1024.Idx → Elt F .i32) (X1 : S1x1024.Idx → Elt F .f32) (X2 X3 : S2560x1024.Idx → Elt F .f32) (X4 : S1x1.Idx → Elt F .f32)
    (a p : S1x1024.Idx → Elt F .f32) (K : PUnit → sProp 𝕄) :
    iprop((owns (c : Thread nD τ) m0 fullShare X0 ∗ owns (c : Thread nD τ) m1 fullShare X1
            ∗ owns (c : Thread nD τ) m2 fullShare X2 ∗ owns (c : Thread nD τ) m3 fullShare X3
            ∗ owns (c : Thread nD τ) m4 fullShare X4
            ∗ owns (c : Thread nD τ) m5 fullShare a ∗ owns (c : Thread nD τ) m6 fullShare p)
          ∗ (iprop(owns (c : Thread nD τ) m0 fullShare X0 ∗ owns (c : Thread nD τ) m1 fullShare X1
            ∗ owns (c : Thread nD τ) m2 fullShare X2 ∗ owns (c : Thread nD τ) m3 fullShare (k1_pay6 i X2 X0 (phiAt i X1 p))
            ∗ owns (c : Thread nD τ) m4 fullShare
                (if k1_cond2 i = 1#1 then k1_pay2 (k1_pay7 i X2 X0 (phiAt i X1 p) (accAt i a)) (phiAt i X1 p) else X4)
            ∗ owns (c : Thread nD τ) m5 fullShare (k1_pay7 i X2 X0 (phiAt i X1 p) (accAt i a))
            ∗ owns (c : Thread nD τ) m6 fullShare (phiAt i X1 p)) -∗ K ⟨⟩))
      ⊢ wp frame (wpE (defs₀ (F := F)) 𝒱₀ c none) Set.univ
          (cc1__stream_body i m0 h0 m1 h1 m2 h2 m3 h3 m4 h4 m5 h5 m6 h6) K := by
  rw [cc1__stream_body_eq_skeleton]; unfold cc1__stream_body_skel
  rw [k1_part1_eq_skeleton]; unfold k1_part1_skel
  unfold owns
  by_cases c1 : cond1 i = 1#1 <;> by_cases c2 : k1_cond2 i = 1#1
  · simp only [c1, c2, phiAt, accAt, dite_true, if_true]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_exec
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]
    · iexists _; isplitr; swap; · iexact H3
      ipureintro; unfold block_body.sl.v19 block_body.sl.H6_1; simp only [readCov_all, readAt_all, read_store_all, k1_pay1, shapeCast_self, hf0, hf1, hf2, hf4, hf5, hf6]
    isplitl [H4]
    · iexists _; isplitr; swap; · iexact H4
      ipureintro; unfold block_body.sl.v41 block_body.sl.v19 block_body.sl.H5_2 block_body.sl.v19 block_body.sl.v31 block_body.sl.H5_1 block_body.sl.H6_1; simp only [readCov_all, readAt_all, read_store_all, k1_pay1, shapeCast_self, hf0, hf1, hf2, hf4, hf5, hf6]
    isplitl [H5]
    · iexists _; isplitr; swap; · iexact H5
      ipureintro; unfold block_body.sl.H5_2 block_body.sl.v19 block_body.sl.v31 block_body.sl.H5_1 block_body.sl.H6_1; simp only [readCov_all, readAt_all, read_store_all, k1_pay1, shapeCast_self, hf0, hf1, hf2, hf4, hf5, hf6]
    iexists _; isplitr; swap; · iexact H6
    ipureintro; unfold block_body.sl.H6_1; simp only [readCov_all, readAt_all, read_store_all, k1_pay1, shapeCast_self, hf0, hf1, hf2, hf4, hf5, hf6]
  · simp only [c1, c2, phiAt, accAt, dite_true, if_true, dite_false, if_false]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_exec
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]
    · iexists _; isplitr; swap; · iexact H3
      ipureintro; unfold block_body.sl.v19_1 block_body.sl.H6_1_1; simp only [readCov_all, readAt_all, read_store_all, k1_pay1, shapeCast_self, hf0, hf1, hf2, hf4, hf5, hf6]
    isplitl [H4]
    · iexists _; isplitr; swap; · iexact H4
      ipureintro;  simp only [readCov_all, readAt_all, read_store_all, k1_pay1, shapeCast_self, hf0, hf1, hf2, hf4, hf5, hf6]
    isplitl [H5]
    · iexists _; isplitr; swap; · iexact H5
      ipureintro; unfold block_body.sl.v19_1 block_body.sl.v31_1 block_body.sl.H5_1_1 block_body.sl.H6_1_1; simp only [readCov_all, readAt_all, read_store_all, k1_pay1, shapeCast_self, hf0, hf1, hf2, hf4, hf5, hf6]
    iexists _; isplitr; swap; · iexact H6
    ipureintro; unfold block_body.sl.H6_1_1; simp only [readCov_all, readAt_all, read_store_all, k1_pay1, shapeCast_self, hf0, hf1, hf2, hf4, hf5, hf6]
  · simp only [c1, c2, phiAt, accAt, dite_true, if_true, dite_false, if_false]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_exec
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]
    · iexists _; isplitr; swap; · iexact H3
      ipureintro; simp only [readCov_all, readAt_all, read_store_all, k1_pay1, shapeCast_self, hf0, hf1, hf2, hf4, hf5, hf6]
    isplitl [H4]
    · iexists _; isplitr; swap; · iexact H4
      ipureintro; unfold block_body.sl.v41_1 block_body.sl.H5_1_2; simp only [readCov_all, readAt_all, read_store_all, k1_pay1, shapeCast_self, hf0, hf1, hf2, hf4, hf5, hf6]
    isplitl [H5]
    · iexists _; isplitr; swap; · iexact H5
      ipureintro; unfold block_body.sl.H5_1_2; simp only [readCov_all, readAt_all, read_store_all, k1_pay1, shapeCast_self, hf0, hf1, hf2, hf4, hf5, hf6]
    iexists _; isplitr; swap; · iexact H6
    ipureintro; simp only [readCov_all, readAt_all, read_store_all, k1_pay1, shapeCast_self, hf0, hf1, hf2, hf4, hf5, hf6]
  · simp only [c1, c2, phiAt, accAt, dite_true, if_true, dite_false, if_false]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_exec
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]
    · iexists _; isplitr; swap; · iexact H3
      ipureintro; simp only [readCov_all, readAt_all, read_store_all, k1_pay1, shapeCast_self, hf0, hf1, hf2, hf4, hf5, hf6]
    isplitl [H4]
    · iexists _; isplitr; swap; · iexact H4
      ipureintro; simp only [readCov_all, readAt_all, read_store_all, k1_pay1, shapeCast_self, hf0, hf1, hf2, hf4, hf5, hf6]
    isplitl [H5]
    · iexists _; isplitr; swap; · iexact H5
      ipureintro; simp only [readCov_all, readAt_all, read_store_all, k1_pay1, shapeCast_self, hf0, hf1, hf2, hf4, hf5, hf6]
    iexists _; isplitr; swap; · iexact H6
    ipureintro; simp only [readCov_all, readAt_all, read_store_all, k1_pay1, shapeCast_self, hf0, hf1, hf2, hf4, hf5, hf6]

end Cert.Proof.OfKernelIdeal
-- ==== Proof.KernelIdeal.Values.lean ====
/-
  What the streaming kernel's blocks compute, point by point: the row number a block's element stands for, which elements
  of the last block lie inside the array, and that neither the scaled block inside the array nor the sum of the masked
  exponentials looks at the staging rows past the array's end.
-/
module

public import proofs.«01_k».proof.Proof.KernelIdeal.Block
public import Idealize.ShloMosaic.Lib.Pipeline.Value

@[expose] public section

noncomputable section

namespace Cert.Proof.OfKernelIdeal

open Cert.KernelIdeal Cert.KernelIdeal.Gen

open Idealize.ShloMosaic
open Idealize.ShloMosaic.TcCoe

variable {F : FTy → Type} [FloatOps F]

/-- The points of the grid are the numbers below 40. -/
theorem coords_val (t : Fin grid1.N) : ((grid1.coords t) 0).val = t.val := by
  have h : ∀ t : Fin grid1.N, ((grid1.coords t) 0).val = t.val := by decide
  exact h t

/-- The kernel's first test holds at the first point only. -/
theorem cond1_iff (t : Fin grid1.N) : cond1 (grid1.coords t) = 1#1 ↔ t.val = 0 := by
  have h : ∀ t : Fin grid1.N, cond1 (grid1.coords t) = 1#1 ↔ t.val = 0 := by decide
  exact h t

/-- The kernel's second test holds at the last point only. -/
theorem cond2_iff (t : Fin grid1.N) : k1_cond2 (grid1.coords t) = 1#1 ↔ t.val = 39 := by
  have h : ∀ t : Fin grid1.N, k1_cond2 (grid1.coords t) = 1#1 ↔ t.val = 39 := by decide
  exact h t

/-- The rows a point's transfers move: all 2560, but 160 at the last. -/
theorem xsize2_row (t : Fin grid1.N) : win1_2.xsize (grid1.coords t) 0 = if t.val = 39 then 160 else 2560 := by
  have h : ∀ t : Fin grid1.N, win1_2.xsize (grid1.coords t) 0 = if t.val = 39 then 160 else 2560 := by decide
  exact h t

/-- The columns a point's transfers move: all. -/
theorem xsize2_col (t : Fin grid1.N) : win1_2.xsize (grid1.coords t) 1 = 1024 := by
  have h : ∀ t : Fin grid1.N, win1_2.xsize (grid1.coords t) 1 = 1024 := by decide
  exact h t

/-- An element of the block is moved exactly if its row lies in the array. -/
theorem moved2_iff (t : Fin grid1.N) (y : S2560x1024.Idx) :
    win1_2.moved (grid1.coords t) y = true ↔ 2560 * t.val + (y 0).val < 100000 := by
  have h0 := xsize2_row t
  have h1 := xsize2_col t
  have ht : t.val < 40 := N_1 ▸ t.isLt
  have hy0 : (y 0).val < 2560 := (y 0).isLt
  have hy1 : (y 1).val < 1024 := (y 1).isLt
  rw [Pipeline.Window.moved_iff]
  constructor
  · intro h
    have h' : (y 0).val < win1_2.xsize (grid1.coords t) 0 := h 0
    rw [h0] at h'
    split at h' <;> omega
  · intro h a
    match a with
    | 0 =>
      show (y 0).val < win1_2.xsize (grid1.coords t) 0
      rw [h0]; split <;> omega
    | 1 =>
      show (y 1).val < win1_2.xsize (grid1.coords t) 1
      rw [h1]; exact hy1

/-- The row number the kernel computes for an element of its block. -/
theorem pay5_at (t : Fin grid1.N) (y : S2560x1024.Idx) :
    k1_pay5 (grid1.coords t) y = BitVec.ofNat 32 (2560 * t.val + (y 0).val) := by
  have e : k1_pay5 (grid1.coords t) y
      = BitVec.ofNat 32 (y 0).val + BitVec.ofNat 32 ((grid1.coords t) 0).val * 2560#32 := by
    unfold k1_pay5
    simp [addi, iota, broadcast, Scalar.muli, IntOp.addi, IntOp.muli]
  have ht : t.val < 40 := N_1 ▸ t.isLt
  have hy0 : (y 0).val < 2560 := (y 0).isLt
  rw [e, coords_val]
  apply BitVec.eq_of_toNat_eq
  simp only [BitVec.toNat_add, BitVec.toNat_mul, BitVec.toNat_ofNat]
  omega

/-- The scaled block at an element looks at the logits at that element only. -/
theorem pay6_congr (i : grid1.Coords) (v v' : Vec F S2560x1024 .f32) (v15 : Vec F S1x1024 .i32) (v19 : Vec F S1x1024 .f32)
    (y : S2560x1024.Idx) (h : v y = v' y) : k1_pay6 i v v15 v19 y = k1_pay6 i v' v15 v19 y := by
  unfold k1_pay6
  simp only [shapeCast_self]
  unfold select mulf minimumf maximumf
  simp only [h]

/-- The accumulator after a block looks at the logits of rows below 100000 only. -/
theorem pay7_congr (i : grid1.Coords) (v v' : Vec F S2560x1024 .f32) (v15 : Vec F S1x1024 .i32) (v19 v31 : Vec F S1x1024 .f32)
    (h : ∀ y, IntOp.cmpi .slt (k1_pay5 i y) 100000#32 = 1#1 → v y = v' y) : k1_pay7 i v v15 v19 v31 = k1_pay7 i v' v15 v19 v31 := by
  unfold k1_pay7
  dsimp only
  congr 3
  funext y
  unfold select
  by_cases hy : IntOp.cmpi .slt (k1_pay5 i y) 100000#32 = 1#1
  · have := pay6_congr i v v' v15 v19 y (h y hy)
    unfold exp subf
    simp only [this]
  · show Scalar.select (IntOp.cmpi .slt (k1_pay5 i y) 100000#32) _ _ = Scalar.select (IntOp.cmpi .slt (k1_pay5 i y) 100000#32) _ _
    unfold Scalar.select
    exact (if_neg hy).trans (if_neg hy).symm

/-- A comparison's bit is set exactly if it holds. -/
theorem ofBool_one (b : Bool) : BitVec.ofBool b = 1#1 ↔ b = true := by cases b <;> decide

/-- A row the mask keeps is moved. -/
theorem moved_of_slt (t : Fin grid1.N) (y : S2560x1024.Idx) (h : IntOp.cmpi .slt (k1_pay5 (grid1.coords t) y) 100000#32 = 1#1) :
    win1_2.moved (grid1.coords t) y = true := by
  rw [moved2_iff]
  rw [pay5_at] at h
  have ht : t.val < 40 := N_1 ▸ t.isLt
  have hy0 : (y 0).val < 2560 := (y 0).isLt
  simp only [IntOp.cmpi, ofBool_one, BitVec.slt_eq_decide, decide_eq_true_eq, BitVec.toInt_eq_toNat_cond, BitVec.toNat_ofNat, Nat.reducePow, Nat.reduceMod] at h
  omega

/-- The mask keeps exactly the rows below 100000. -/
theorem slt_iff (t : Fin grid1.N) (y : S2560x1024.Idx) :
    IntOp.cmpi .slt (k1_pay5 (grid1.coords t) y) 100000#32 = 1#1 ↔ 2560 * t.val + (y 0).val < 100000 := by
  rw [pay5_at]
  have ht : t.val < 40 := N_1 ▸ t.isLt
  have hy0 : (y 0).val < 2560 := (y 0).isLt
  simp only [IntOp.cmpi, ofBool_one, BitVec.slt_eq_decide, decide_eq_true_eq, BitVec.toInt_eq_toNat_cond, BitVec.toNat_ofNat, Nat.reducePow, Nat.reduceMod]
  omega

/-- What fills the staging rows past the array's end does not reach the accumulator. -/
theorem pay7_fill (t : Fin grid1.N) (d d' : S2560x1024.Idx → Elt F .f32) (g) (v15 : Vec F S1x1024 .i32) (v19 v31 : Vec F S1x1024 .f32) :
    k1_pay7 (grid1.coords t) (win1_2.fill (grid1.coords t) d g) v15 v19 v31
      = k1_pay7 (grid1.coords t) (win1_2.fill (grid1.coords t) d' g) v15 v19 v31 :=
  pay7_congr _ _ _ _ _ _ fun y hy => by
    have := moved_of_slt t y hy
    unfold Pipeline.Window.fill
    rw [dif_pos this, dif_pos this]

/-- Nor the part of the scaled block that is moved out. -/
theorem pay6_fill (t : Fin grid1.N) (d d' : S2560x1024.Idx → Elt F .f32) (g) (v15 : Vec F S1x1024 .i32) (v19 : Vec F S1x1024 .f32) :
    win1_3.cut (grid1.coords t) (k1_pay6 (grid1.coords t) (win1_2.fill (grid1.coords t) d g) v15 v19)
      = win1_3.cut (grid1.coords t) (k1_pay6 (grid1.coords t) (win1_2.fill (grid1.coords t) d' g) v15 v19) := by
  have e : ∀ X : S2560x1024.Idx → Elt F .f32, win1_3.cut (grid1.coords t) X = win1_2.cut (grid1.coords t) X := fun _ => rfl
  rw [e, e]
  funext j
  refine pay6_congr _ _ _ _ _ _ ?_
  have h1 := congrFun (win1_2.cut_fill (grid1.coords t) d g) j
  have h2 := congrFun (win1_2.cut_fill (grid1.coords t) d' g) j
  exact h1.trans h2.symm

end Cert.Proof.OfKernelIdeal

end
-- ==== Proof.KernelIdeal.Region.lean ====
/-
  The streaming region: its forty points in order, from the arrays as the region finds them. What the accumulator holds
  before each point, what each block of the result and the loss are, that one point's run takes one to the next, and the
  region as the launch's library takes it.
-/
module

public import proofs.«01_k».proof.Proof.KernelIdeal.Values
public import Idealize.ShloMosaic.Lib.Pipeline.FrameBody
public import Idealize.ShloMosaic.Lib.Pipeline.FrameTail
public import Idealize.ShloMosaic.Lib.Pipeline.RegionArraysS
public import Idealize.ShloMosaic.Lib.Pipeline.RegionsLoop
public import Idealize.ShloMosaic.Lib.Pipeline.Regions

@[expose] public section

noncomputable section

namespace Cert.Proof.OfKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligationLoose cellOf)

variable {F : FTy → Type} [FloatOps F]

local notation "𝕄" => MT nD τ sig (HIx 1) (Elt F) ℕ UU ℕ

variable (V : Dev nD → Valuation τ sig (Elt F))

/-! ## What the blocks hold -/

/-- The targets as the region finds them. -/
abbrev tgt (c : Dev nD) : S1x1024.Idx → Elt F .i32 := V c main_v5
/-- The gathered logits as the region finds them. -/
abbrev gat (c : Dev nD) : S1x1024.Idx → Elt F .f32 := V c main_v6
/-- The block of logits point `t` fetches: the rows inside the array. -/
def xblk (c : Dev nD) (t : Fin grid1.N) : (win1_2.xblock (grid1.coords t)).Idx → Elt F .f32 :=
  (win1_2.blk t).view.read (Elt F) (V c main_v0)
/-- The block with the rows past the array's end at zero. -/
def xfull (c : Dev nD) (t : Fin grid1.N) : S2560x1024.Idx → Elt F .f32 :=
  win1_2.fill (grid1.coords t) (fun _ => Scalar.ofBits .f32 0#32) (xblk V c t)
/-- The margin row. -/
def ph (c : Dev nD) : FVec F S1x1024 .f32 := k1_pay3 (gat V c)
/-- The block of the result point `t` stores. -/
def oblk (c : Dev nD) (t : Fin grid1.N) : S2560x1024.Idx → Elt F .f32 :=
  k1_pay6 (grid1.coords t) (xfull V c t) (tgt V c) (ph V c)
/-- The accumulator before point `n`. -/
def accB (c : Dev nD) : ℕ → FVec F S1x1024 .f32
  | 0 => k1_pay4
  | n + 1 => if h : n < grid1.N then k1_pay7 (grid1.coords ⟨n, h⟩) (xfull V c ⟨n, h⟩) (tgt V c) (ph V c) (accB c n) else accB c n
/-- The loss. -/
def lossOf (c : Dev nD) : S1x1.Idx → Elt F .f32 := k1_pay2 (accB V c 40) (ph V c)

/-- The accumulator after a point of the grid. -/
theorem accB_succ (c : Dev nD) (t : Fin grid1.N) :
    accB V c (t.val + 1) = k1_pay7 (grid1.coords t) (xfull V c t) (tgt V c) (ph V c) (accB V c t.val) := by
  show (if h : t.val < grid1.N then _ else _) = _
  rw [dif_pos t.isLt]

/-! ## The proof data -/

/-- What the two scratch rows hold before a point: at the first anything, later the accumulator and the margin row. -/
def Φs (c : Dev nD) (n : ℕ) : sProp 𝕄 :=
  iprop(∃ a p, ⌜n ≠ 0 → a = accB V c n ∧ p = ph V c⌝ ∗ owns (c : Thread nD τ) (Memref.whole cc1_scratch0) fullShare a
    ∗ owns (c : Thread nD τ) (Memref.whole cc1_scratch1) fullShare p)

/-- The pairs of a semaphore cell and an index the core may have waited on before the region. -/
def waited (c : Dev nD) : Set (SemLoc sig × HIx 1) := {p | (K (F := F)).lev ((c : Thread nD τ), p.1) p.2 ≤ 8 * 1}

/-- The proof data of the region. -/
def dats (_ : Fin 1) (c : Dev nD) : Dat τ (Elt F) (HIx 1) ℕ UU ℕ cfg1 c where
  A w := V c (Pipeline.arrRef spec1 w)
  after w t := match w with
    | ⟨0, _⟩ => tgt V c
    | ⟨1, _⟩ => gat V c
    | ⟨2, _⟩ => xfull V c t
    | ⟨3, _⟩ => oblk V c t
    | ⟨4, _⟩ => lossOf V c
  Φ t := Φs V c t.val
  q _ := fullShare
  owed _ := 0
  recorded _ := waited (F := F) c

/-- The arrays are those the region finds. -/
theorem A_eq (c : Dev nD) (w : Fin cfg1.W) : (dats V 0 c).A w = V c (Pipeline.arrRef spec1 w) := by
  dsimp only [dats]

/-- The one block of a window over a whole row is the row. -/
theorem blk0 (t : Fin grid1.N) (f : S1x1024.Idx → Elt F .i32) : (win1_0.blk t).view.read (Elt F) f = f := by
  funext y
  refine congrArg f (funext fun a => Fin.ext ?_)
  match a with
  | 0 => show 0 * 1 + 1 * (y 0).val = (y 0).val; omega
  | 1 => show 0 * 1024 + 1 * (y 1).val = (y 1).val; omega

/-- The same of the gathered logits. -/
theorem blk1 (t : Fin grid1.N) (f : S1x1024.Idx → Elt F .f32) : (win1_1.blk t).view.read (Elt F) f = f := by
  funext y
  refine congrArg f (funext fun a => Fin.ext ?_)
  match a with
  | 0 => show 0 * 1 + 1 * (y 0).val = (y 0).val; omega
  | 1 => show 0 * 1024 + 1 * (y 1).val = (y 1).val; omega

/-- The targets' buffer at every point. -/
theorem before_0 (c : Dev nD) (t : Fin cfg1.N) (d) : (dats V 0 c).before (0 : Fin 5) t d = tgt V c :=
  ((dats V 0 c).before_in_eq_fetched (0 : Fin 5) rfl (fun _ => rfl) (fun _ _ _ => rfl) (fun t => (blk0 t (tgt V c)).symm) t d).trans (blk0 t (tgt V c))

/-- The gathered logits' buffer at every point. -/
theorem before_1 (c : Dev nD) (t : Fin cfg1.N) (d) : (dats V 0 c).before (1 : Fin 5) t d = gat V c :=
  ((dats V 0 c).before_in_eq_fetched (1 : Fin 5) rfl (fun _ => rfl) (fun _ _ _ => rfl) (fun t => (blk1 t (gat V c)).symm) t d).trans (blk1 t (gat V c))

/-- The logits' buffer: the point's block, anything past the array's end. -/
theorem before_2 (c : Dev nD) (t : Fin cfg1.N) (d) :
    (dats V 0 c).before (2 : Fin 5) t d = win1_2.fill (grid1.coords t) d (xblk V c t) := by
  unfold Dat.before; rw [if_pos (fetch1_2 t)]; rfl

/-! ## One point -/

/-- The point's margin row. -/
theorem phiAt_eq (c : Dev nD) (t : Fin grid1.N) (p) (h : t.val ≠ 0 → p = ph V c) : phiAt (grid1.coords t) (gat V c) p = ph V c := by
  unfold phiAt
  by_cases h0 : t.val = 0
  · rw [if_pos ((cond1_iff t).mpr h0)]; rfl
  · rw [if_neg (fun e => h0 ((cond1_iff t).mp e))]; exact h h0

/-- The point's accumulator. -/
theorem accAt_eq (c : Dev nD) (t : Fin grid1.N) (a) (h : t.val ≠ 0 → a = accB V c t.val) : accAt (grid1.coords t) a = accB V c t.val := by
  unfold accAt
  by_cases h0 : t.val = 0
  · rw [if_pos ((cond1_iff t).mpr h0), h0]; rfl
  · rw [if_neg (fun e => h0 ((cond1_iff t).mp e))]; exact h h0

/-- The accumulator a point leaves. -/
theorem pay7_point (c : Dev nD) (t : Fin grid1.N) (d) :
    k1_pay7 (grid1.coords t) (win1_2.fill (grid1.coords t) d (xblk V c t)) (tgt V c) (ph V c) (accB V c t.val) = accB V c (t.val + 1) := by
  rw [accB_succ]; exact pay7_fill t _ _ _ _ _ _

/-- The block a point leaves, on the rows inside the array. -/
theorem pay6_point (c : Dev nD) (t : Fin grid1.N) (d) :
    win1_3.fill (grid1.coords t) (k1_pay6 (grid1.coords t) (win1_2.fill (grid1.coords t) d (xblk V c t)) (tgt V c) (ph V c))
        (win1_3.cut (grid1.coords t) (oblk V c t))
      = k1_pay6 (grid1.coords t) (win1_2.fill (grid1.coords t) d (xblk V c t)) (tgt V c) (ph V c) :=
  win1_3.fill_congr_cut _ (pay6_fill t _ _ _ _ _)

set_option maxHeartbeats 1000000 in
/-- Every point's body takes the state before the point to the state after it. -/
theorem body_obligation (c : Dev nD) : BodyObligationLoose (dats V 0 c) (defs₀ (F := F)) 𝒱₀ none Set.univ := fun t => by
  rw [bigSep_W1, bigSep_W1]
  simp only
  rw [show (dats V 0 c).Φ t.succ = Φs V c (t.val + 1) from rfl,
    show (dats V 0 c).Φ t.castSucc = Φs V c t.val from rfl,
    show (dats V 0 c).owesAt none t.succ = (dats V 0 c).owesAt none t.castSucc from rfl]
  unfold Φs
  iintro ⟨⟨%a, %p, %hap, Ha, Hp⟩, Ho, ⟨%d0, H0⟩, ⟨%d1, H1⟩, ⟨%d2, H2⟩, ⟨%d3, H3⟩, ⟨%d4, H4⟩⟩
  rw [before_0 V c t d0, before_1 V c t d1, before_2 V c t d2]
  have hp := phiAt_eq V c t p fun h => (hap h).2
  have ha := accAt_eq V c t a fun h => (hap h).1
  iapply (block_body (F := F) c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (Memref.whole cc1_scratch0) (Memref.isWhole_whole _) (Memref.whole cc1_scratch1) (Memref.isWhole_whole _)
    (tgt V c) (gat V c) (win1_2.fill (grid1.coords t) d2 (xblk V c t)) ((dats V 0 c).before (3 : Fin 5) t d3) ((dats V 0 c).before (4 : Fin 5) t d4) a p _)
  rw [hp, ha, pay7_point]
  isplitl [H0 H1 H2 H3 H4 Ha Hp]
  · isplitl [H0]; · iexact H0
    isplitl [H1]; · iexact H1
    isplitl [H2]; · iexact H2
    isplitl [H3]; · iexact H3
    isplitl [H4]; · iexact H4
    isplitl [Ha]; · iexact Ha
    iexact Hp
  iintro ⟨H0, H1, H2, H3, H4, Ha, Hp⟩
  isplitl [Ha Hp]
  · iexists accB V c (t.val + 1); iexists ph V c
    isplitr; · ipureintro; exact fun _ => ⟨rfl, rfl⟩
    isplitl [Ha]; · iexact Ha
    iexact Hp
  isplitl [Ho]; · iexact Ho
  isplitl [H0]; · iexact H0
  isplitl [H1]; · iexact H1
  isplitl [H2]
  · iexists d2
    change _ ⊢ owns (c : Thread nD τ) (win1_2.stage (cfg1.slots t 2)) fullShare (win1_2.fill (grid1.coords t) d2 (win1_2.cut (grid1.coords t) (xfull V c t)))
    rw [show win1_2.cut (grid1.coords t) (xfull V c t) = xblk V c t from win1_2.cut_fill _ _ _]; try iexact H2
  isplitl [H3]
  · iexists k1_pay6 (grid1.coords t) (win1_2.fill (grid1.coords t) d2 (xblk V c t)) (tgt V c) (ph V c)
    change _ ⊢ owns (c : Thread nD τ) (win1_3.stage (cfg1.slots t 3)) fullShare
      (win1_3.fill (grid1.coords t) (k1_pay6 (grid1.coords t) (win1_2.fill (grid1.coords t) d2 (xblk V c t)) (tgt V c) (ph V c)) (win1_3.cut (grid1.coords t) (oblk V c t)))
    rw [pay6_point]; try iexact H3
  by_cases h39 : t.val = 39
  · have hi : idle1 4 (grid1.coords t) = false := by
      show (!(k1_cond2 (grid1.coords t) == 1#1)) = false
      rw [(cond2_iff t).mpr h39]; rfl
    rw [if_pos ((cond2_iff t).mpr h39)]
    simp only [hi]
    rw [h39]
    iexact H4
  · have hi : idle1 4 (grid1.coords t) = true := by
      show (!(k1_cond2 (grid1.coords t) == 1#1)) = true
      have := fun e => h39 ((cond2_iff t).mp e)
      simpa using this
    have hf : (win1 4).flush t = false := by
      have ht : t.val < 40 := N_1 ▸ t.isLt
      rw [Bool.eq_false_iff]
      exact fun e => h39 (by have := (flush1_4 t).mp e; omega)
    rw [if_neg (fun e => h39 ((cond2_iff t).mp e))]
    simp only [hi, hf]
    iexists d4
    iexact H4

/-! ## The region -/

/-- No table is prefetched. -/
abbrev adm : (p : Fin 1) → (pcfgs (F := F) p).Adm := fun p => (cfgs p).toPCfg_adm

/-- What the core owes around the region: nothing, having waited at most on the call's own cells. -/
abbrev R (c : Dev nD) : sProp 𝕄 :=
  iprop(∃ W, ⌜(K (F := F)).WBelow (c : Thread nD τ) W (8 * 1)⌝ ∗ owes (c : Thread nD τ) (0 : CellTallies nD τ sig (HIx 1)) W)

/-- The arrays after the region. -/
def Vend (c : Dev nD) : Valuation τ sig (Elt F) := Pipeline.afterRegion (dats V 0 c) (V c)

/-- The kernel has no semaphores of its own. -/
theorem ownSemFacts : Pipeline.OwnSemFacts spec1 (fun k : Fin 0 => k.elim0) := by decide

/-- No semaphores, at zero. -/
theorem ownSems0_eq (c : Dev nD) :
    (Pipeline.ownSems0 (Ix := HIx 1) (Name := ℕ) (U := UU) (Lvl := ℕ) (Val := Elt F) (τ := τ) (fun k : Fin 0 => k.elim0) c : sProp 𝕄) = iprop(emp) := by
  unfold Pipeline.ownSems0
  rw [show (Finset.univ : Finset (Fin 0)) = ∅ from rfl, BI.bigSep_empty]; rfl

/-- The two scratch rows at anything are what the first point finds; -/
theorem Φ_start (c : Dev nD) : Pipeline.scopedRest (Ix := HIx 1) (Name := ℕ) (U := UU) (Lvl := ℕ) (Val := Elt F) spec1 c ⊢ (Φs V c 0 : sProp 𝕄) := by
  rw [scopedRest1_eq]; unfold Φs
  simp only [owns_whole_eq]
  iintro ⟨⟨%f, Hf⟩, ⟨%g, Hg⟩⟩
  iexists f; iexists g
  isplitr; · ipureintro; exact fun h => absurd rfl h
  isplitl [Hf]
  · iexists f; isplitr; · ipureintro; rfl
    iexact Hf
  iexists g; isplitr; · ipureintro; rfl
  iexact Hg

/-- and what the last leaves is them at something. -/
theorem Φ_end (c : Dev nD) (n : ℕ) : (Φs V c n : sProp 𝕄) ⊢ Pipeline.scopedRest (Ix := HIx 1) (Name := ℕ) (U := UU) (Lvl := ℕ) (Val := Elt F) spec1 c := by
  rw [scopedRest1_eq]; unfold Φs
  simp only [owns_whole_eq]
  iintro ⟨%a, %p, -, ⟨%f, -, Hf⟩, ⟨%g, -, Hg⟩⟩
  isplitl [Hf]; · iexists f; iexact Hf
  iexists g; iexact Hg

set_option backward.isDefEq.respectTransparency.types false in
/-- The region: entered from the arrays at `V`, left with them at `Vend V`. -/
def reg0 : Pipeline.RegionSeg (pcfgs (F := F)) adm (dats V) none defs₀ 𝒱₀ (K (F := F)).L (K (F := F)).lev 0 where
  win := launch1.win.to₀
  block_pos := launch1.block_pos
  stage_whole := launch1.stage_whole
  K := Fin 0
  osem := fun k => k.elim0
  ho := ownSemFacts
  hbody c := body_obligation V c
  hwaits := Pipeline.hwaits_of_owed_zero _ _ _ _ (K (F := F)).L (K (F := F)).lev 0 fun _ _ => rfl
  pre c := iprop(StableHlo.held (c : Thread nD τ) (Pipeline.ucRefs τ sig) (V c) ∗ R c)
  post c := iprop(StableHlo.held (c : Thread nD τ) (Pipeline.ucRefs τ sig) (Vend V c) ∗ R c)
  X _ := iprop(emp)
  Y _ := iprop(emp)
  Z c := Pipeline.unscopedRest (Ix := HIx 1) (Name := ℕ) (U := UU) (Lvl := ℕ) spec1 c (fun b => V c b)
  hentry c := by
    rw [show StableHlo.held (c : Thread nD τ) (Pipeline.ucRefs τ sig) (V c) = unscopedBufs c (fun b => V c b) from (Pipeline.unscopedBufs_held c _).symm]
    have hsplit := Pipeline.arrays_of_unscopedBufs (pcfgs (F := F)) adm (dats V) launch1.win launch1.arr_whole c
      ((dats V 0 c).share_full fun _ => rfl) (fun b => V c b) (A_eq V c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hr
  hin c := by
    rw [show (dats V 0 c).Φ 0 = Φs V c 0 from rfl]
    iintro ⟨-, -, Hr⟩
    iapply (Φ_start V c)
    iexact Hr
  hout c := by
    rw [ownSems0_eq, show (dats V 0 c).Φ (Fin.last cfg1.N) = Φs V c cfg1.N from rfl]
    iintro H
    isplitr; · iempintro
    isplitr; · iempintro
    iapply (Φ_end V c cfg1.N)
    iexact H
  hexit c := by
    have hjoin := Pipeline.unscopedBufs_of_arrays (p := 0) (pcfgs (F := F)) adm (Ix := HIx 1) (Name := ℕ) (U := UU) (Lvl := ℕ)
      launch1.win launch1.arr_whole c (dats V) ((dats V 0 c).share_full fun _ => rfl)
      (fun b => V c (Proc.devRef .tc b)) (fun b => Vend V c (Proc.devRef .tc b)) ((dats V 0 c).arrAt · cfg1.N)
      (fun w => (Pipeline.afterRegion_arr (dats V 0 c) (V c) launch1.win.arr_inj w).symm)
      (fun b hb => Pipeline.afterRegion_of_not_arr (dats V 0 c) (V c)
        fun w h => hb (h ▸ Finset.mem_image.mpr ⟨w, Finset.mem_univ _, rfl⟩))
    rw [show StableHlo.held (c : Thread nD τ) (Pipeline.ucRefs τ sig) (Vend V c) = unscopedBufs c (fun b => Vend V c b) from (Pipeline.unscopedBufs_held c _).symm]
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _

end Cert.Proof.OfKernelIdeal

end
-- ==== Proof.KernelIdeal.Main.lean ====
/-
  The program's run: the logits rearranged, the gathering call, the two rows put in shape, the streaming region, the two
  results put in shape. From any memory whose targets are classes it ends, nothing faulting and every counter zero, with
  every array of the device at a named value.
-/
module

public import proofs.«01_k».proof.Proof.KernelIdeal.Region

@[expose] public section

noncomputable section

namespace Cert.Proof.OfKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.StableHlo (seq after held)

variable {F : FTy → Type} [FloatOps F]

local notation "𝕄" => MT nD τ sig (HIx 1) (Elt F) ℕ UU ℕ

/-! ## The call's arrays dealt over the tiles -/

/-- A SparseCore and a tile of it, as one of 32. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- The call's three arrays, whole, are the 32 tiles' parts. -/
theorem deal (d : Dev nD) (x : Buf (Elt F) (xLoc d)) (t : Buf (Elt F) (tLoc d)) (o : Buf (Elt F) (oLoc d)) :
    (iprop((xLoc d ↦{fullShare} x) ∗ (tLoc d ↦{fullShare} t) ∗ oLoc d ↦{fullShare} o) : sProp 𝕄)
      = bigSep Finset.univ fun c : Fin 2 => bigSep Finset.univ fun i : Fin 16 =>
          iprop((xLoc d ↦{shr (wid c i)} x) ∗ (tLoc d ↦{shr (wid c i)} t) ∗ oLoc d ↦[(orow (wid c i)).set]{fullShare} o) := by
  have ho : (oLoc d ↦{fullShare} o : sProp 𝕄) = bigSep Finset.univ fun w : Fin 32 => oLoc d ↦[(orow w).set]{fullShare} o := by
    rw [← pointsTo_biUnion Finset.univ (ℓ := oLoc d) (fun w : Fin 32 => (orow w).set) (fun w _ w' _ h => Rect.part_disjoint odiv h)]
    rw [show (Finset.univ : Finset (Fin 32)).biUnion (fun w => (orow w).set) = Finset.univ from Rect.biUnion_part odiv]
  have hx : (xLoc d ↦{fullShare} x : sProp 𝕄) = bigSep Finset.univ fun w : Fin 32 => xLoc d ↦{shr w} x :=
    ShareLeaves.pointsTo_leaves Finset.univ x 5 fullShare
  have ht : (tLoc d ↦{fullShare} t : sProp 𝕄) = bigSep Finset.univ fun w : Fin 32 => tLoc d ↦{shr w} t :=
    ShareLeaves.pointsTo_leaves Finset.univ t 5 fullShare
  rw [hx, ht, ho, ← bigSep_sep', ← bigSep_sep', bigSep_univ_equiv widEquiv, bigSep_univ_prod]
  rfl

/-! ## The host operations, and the arrays between them -/

/-- The logits transposed and laid out flat, tile by tile. -/
def ops0 : List (HloOp τ sig (Elt F)) :=
  [StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
    StableHlo.reshape main_v0 main_v1 (rfl : (.f32 : EltTy) = .f32) shapeCasts_S100000x1024_S12500x8x8x128,
    StableHlo.unary main_v1 main_v2 ((transpose S12500x8x8x128 [0, 2, 1, 3] · transposes_S12500x8x8x128_S12500x8x8x128_0_2_1_3) : (⟨S12500x8x8x128, .f32⟩ : BufTy).Contents (Elt F) → (⟨S12500x8x8x128, .f32⟩ : BufTy).Contents (Elt F)),
    StableHlo.reshape main_v2 main_v3 (rfl : (.f32 : EltTy) = .f32) shapeCasts_S12500x8x8x128_S102400000]

/-- The targets and the gathered logits as rows. -/
def ops1 : List (HloOp τ sig (Elt F)) :=
  [StableHlo.reshape main_arg1 main_v5 (rfl : (.i32 : EltTy) = .i32) shapeCasts_S1024_S1x1024,
    StableHlo.reshape main_v4 main_v6 (rfl : (.f32 : EltTy) = .f32) shapeCasts_S1024_S1x1024]

/-- The loss as a number and the scaled logits turned back. -/
def ops2 : List (HloOp τ sig (Elt F)) :=
  [StableHlo.reshape main_v7_1 main_v8 (rfl : (.f32 : EltTy) = .f32) shapeCasts_S1x1_S_,
    StableHlo.unary main_v7_0 main_v9 ((transpose S1024x100000 [1, 0] · transposes_S100000x1024_S1024x100000_1_0) : (⟨S100000x1024, .f32⟩ : BufTy).Contents (Elt F) → (⟨S1024x100000, .f32⟩ : BufTy).Contents (Elt F))]

/-- The program, as those lists around its two calls. -/
theorem main_eq (d : Dev nD) : main (F := F) d = (seq ops0 >>= fun _ => sc.run d 0 >>= fun _ => seq ops1 >>= fun _ =>
    (SparseCore.liftProg (Prog.lift (.customCall (Pipeline.entry 0) ())) >>= fun _ => seq ops2)) := by
  unfold main ops0 ops1 ops2
  simp only [seq, bind_assoc, pure_bind]
  rfl

variable (m : (ℓ : Loc nD τ sig) → Buf (Elt F) ℓ) (ρ : Dev nD → PrngReg)

/-- The arrays at launch; -/
def V0 (d : Dev nD) : Valuation τ sig (Elt F) := fun b => m (d, b)
/-- before the gathering call; -/
def V1 (d : Dev nD) : Valuation τ sig (Elt F) := after ops0 (V0 m d)
/-- what the call is given; -/
def NN : Given F where
  x d := V1 m d main_v3
  t d := V1 m d main_arg1
  o d := V1 m d main_v4
/-- after it; -/
def V2 (d : Dev nD) : Valuation τ sig (Elt F) := Function.update (V1 m d) (Proc.devRef .tc main_v4) ((NN m).out d)
/-- before the region; -/
def V3 (d : Dev nD) : Valuation τ sig (Elt F) := after ops1 (V2 m d)
/-- after it; -/
def V4 (d : Dev nD) : Valuation τ sig (Elt F) := Vend (V3 m) d
/-- and at the end. -/
def V5 (d : Dev nD) : Valuation τ sig (Elt F) := after ops2 (V4 m d)

/-- The three arrays of the call. -/
abbrev callRefs : Finset (DevRef τ sig) := {Proc.devRef .tc main_v3, Proc.devRef .tc main_arg1, Proc.devRef .tc main_v4}

/-- They are held as three arrays. -/
theorem held_call (d : Dev nD) (W : Valuation τ sig (Elt F)) :
    (held (d : Thread nD τ) callRefs W : sProp 𝕄)
      = iprop((xLoc d ↦{fullShare} W main_v3) ∗ (tLoc d ↦{fullShare} W main_arg1) ∗ oLoc d ↦{fullShare} W main_v4) := by
  unfold held
  rw [SparseCore.bigSep_insert' (by decide), SparseCore.bigSep_insert' (by decide), bigSep_singleton]

/-- They are unscoped. -/
theorem callRefs_sub : callRefs ⊆ Pipeline.ucRefs τ sig := by decide

/-- After the call the flat logits are as they were, -/
theorem V2_v3 (d : Dev nD) : V2 m d main_v3 = V1 m d main_v3 := Function.update_of_ne (by decide) _ _
/-- the targets too, -/
theorem V2_arg1 (d : Dev nD) : V2 m d main_arg1 = V1 m d main_arg1 := Function.update_of_ne (by decide) _ _
/-- and the result is the gathered logits. -/
theorem V2_v4 (d : Dev nD) : V2 m d main_v4 = (NN m).out d := Function.update_self _ _ _

/-! ## The ghost state at launch -/

/-- The handshakes' cells and the pipeline's. -/
def u₀ : UU := (initOf (K (F := F)).hsCells (K (F := F)).hsToks,
  (initOf (Pipeline.cells cfgs cellOf_inj) (Pipeline.launchToks cfgs cellOf_inj), 1))

/-- What a device's TensorCore is dealt for its region. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- Every one of many empties is empty. -/
theorem bigSep_emps {I : Type} (s : Finset I) : (bigSep s fun _ => iprop(emp)) = (iprop(emp) : sProp 𝕄) := bigSep_emp_const s

set_option backward.isDefEq.respectTransparency.types false in
/-- The launch deals the handshakes' and the pipeline's cells. -/
theorem hu₀ (N : Given F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P N).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave HR' := (own_pair_emb (embR : Emb (UP × Counters) 𝕄) (initOf (Pipeline.cells cfgs cellOf_inj) (Pipeline.launchToks cfgs cellOf_inj)) (1 : Counters)) $$ HR
  icases HR' with ⟨HP0, -⟩
  ihave HP := (Entails.of_eq (show (BI.own (((Emb.inl : Emb UP (UP × Counters)).trans (embR : Emb (UP × Counters) 𝕄)) (initOf (Pipeline.cells cfgs cellOf_inj) (Pipeline.launchToks cfgs cellOf_inj))) : sProp 𝕄)
      = BI.own (EP (initOf (Pipeline.cells (Pipeline.pin (pcfgs (F := F)) adm) cellOf_inj) (Pipeline.launchToks (Pipeline.pin (pcfgs (F := F)) adm) cellOf_inj))) from rfl)) $$ HP0
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ fun d : Dev nD => (G d : sProp 𝕄)) = iprop((bigSep Finset.univ fun d : Dev nD => Pipeline.cellsGhost (Pipeline.pin (pcfgs (F := F)) adm) EP 0 d)
      ∗ bigSep Finset.univ fun d : Dev nD => Pipeline.toksInit (Pipeline.pin (pcfgs (F := F)) adm) EP 0 d) from bigSep_sep' Finset.univ _ _]
    isplitl [Hg]
    · ihave Hg' := (Entails.of_eq (show (bigSep Finset.univ fun c : Dev nD => bigSep Finset.univ fun p : Fin 1 => (Pipeline.cellsGhost (Pipeline.pin (pcfgs (F := F)) adm) EP p c : sProp 𝕄))
        = bigSep Finset.univ fun c : Dev nD => Pipeline.cellsGhost (Pipeline.pin (pcfgs (F := F)) adm) EP 0 c from bigSep_congr fun _ _ => bigSep_univ_of_subsingleton (0 : Fin 1))) $$ Hg
      iexact Hg'
    ihave Ht' := (Entails.of_eq (show (bigSep Finset.univ fun c : Dev nD => bigSep Finset.univ fun p : Fin 1 => (Pipeline.toksInit (Pipeline.pin (pcfgs (F := F)) adm) EP p c : sProp 𝕄))
        = bigSep Finset.univ fun c : Dev nD => Pipeline.toksInit (Pipeline.pin (pcfgs (F := F)) adm) EP 0 c from bigSep_congr fun _ _ => bigSep_univ_of_subsingleton (0 : Fin 1))) $$ Ht
    iexact Ht'
  rw [show (bigSep Finset.univ fun thr : Thread nD τ => bigSep Finset.univ fun q : Fin 1 => (P N).x q thr) = bigSep Finset.univ fun _ => iprop(emp) from
    bigSep_congr fun _ _ => bigSep_univ_of_subsingleton (0 : Fin 1), bigSep_emps]
  iempintro

/-! ## @main on the TensorCore -/

/-- The TensorCore's state after the last call owes nothing, and keeps the rest beside. -/
theorem Otc_end (d : Dev nD) : (K (F := F)).Otc d 1 = 0 := by
  unfold SparseCore.Cfg.Otc
  refine Finset.sum_eq_zero fun q _ => ?_
  rw [if_neg (by omega)]

/-- What a device's TensorCore ends with: every array at its final value. -/
abbrev FIN (d : Dev nD) : sProp 𝕄 := held (d : Thread nD τ) (Pipeline.ucRefs τ sig) (V5 m d)

/-- What the call is given, dealt. -/
theorem st0_eq (d : Dev nD) : (bigSep Finset.univ fun c : Fin ((K (F := F)).nCore 0) => (P (NN m)).st 0 d c)
    = (held (d : Thread nD τ) callRefs (V1 m d) : sProp 𝕄) := by
  rw [held_call, deal]; rfl

/-- What it gives back, gathered. -/
theorem dn0_eq (d : Dev nD) : (bigSep Finset.univ fun c : Fin ((K (F := F)).nCore 0) => (P (NN m)).dn 0 d c)
    = (held (d : Thread nD τ) callRefs (V2 m d) : sProp 𝕄) := by
  rw [held_call, V2_v3, V2_arg1, V2_v4, deal]; rfl

/-- Off the call's arrays nothing changed. -/
theorem V2_off (d : Dev nD) : (held (d : Thread nD τ) (Pipeline.ucRefs τ sig \ callRefs) (V1 m d) : sProp 𝕄)
    = held (d : Thread nD τ) (Pipeline.ucRefs τ sig \ callRefs) (V2 m d) :=
  StableHlo.held_congr (d : Thread nD τ) fun b hb => by
    refine (Function.update_of_ne ?_ _ _).symm
    rintro rfl
    exact (Finset.mem_sdiff.mp hb).2 (by decide)

/-- So what is held before the call is the call's arrays and the rest as it stays. -/
theorem held_split (d : Dev nD) : (held (d : Thread nD τ) (Pipeline.ucRefs τ sig) (after ops0 (V0 m d)) : sProp 𝕄)
    = iprop(held (d : Thread nD τ) callRefs (V1 m d) ∗ held (d : Thread nD τ) (Pipeline.ucRefs τ sig \ callRefs) (V2 m d)) := by
  rw [show after ops0 (V0 m d) = V1 m d from rfl, StableHlo.held_sub_split (d : Thread nD τ) callRefs_sub (V1 m d), V2_off]

theorem ops0_sub : ∀ op ∈ (ops0 (F := F)), op.bufs ⊆ Pipeline.ucRefs τ sig := by
  intro op h
  unfold ops0 at h
  simp only [List.mem_cons, List.mem_nil_iff, or_false] at h
  exact Pipeline.sub_ucRefs op (by rcases h with rfl | rfl | rfl | rfl <;> first | exact StableHlo.unary_bufs_sub .. | exact StableHlo.reshape_bufs_sub ..)

theorem ops1_sub : ∀ op ∈ (ops1 (F := F)), op.bufs ⊆ Pipeline.ucRefs τ sig := by
  intro op h
  unfold ops1 at h
  simp only [List.mem_cons, List.mem_nil_iff, or_false] at h
  exact Pipeline.sub_ucRefs op (by rcases h with rfl | rfl <;> first | exact StableHlo.unary_bufs_sub .. | exact StableHlo.reshape_bufs_sub ..)

theorem ops2_sub : ∀ op ∈ (ops2 (F := F)), op.bufs ⊆ Pipeline.ucRefs τ sig := by
  intro op h
  unfold ops2 at h
  simp only [List.mem_cons, List.mem_nil_iff, or_false] at h
  exact Pipeline.sub_ucRefs op (by rcases h with rfl | rfl <;> first | exact StableHlo.unary_bufs_sub .. | exact StableHlo.reshape_bufs_sub ..)

theorem ops0_fresh : ∀ op ∈ (ops0 (F := F)), op.fresh = ∅ := by
  intro op h
  unfold ops0 at h
  simp only [List.mem_cons, List.mem_nil_iff, or_false] at h
  rcases h with rfl | rfl | rfl | rfl <;> rfl

theorem ops1_fresh : ∀ op ∈ (ops1 (F := F)), op.fresh = ∅ := by
  intro op h
  unfold ops1 at h
  simp only [List.mem_cons, List.mem_nil_iff, or_false] at h
  rcases h with rfl | rfl <;> rfl

theorem ops2_fresh : ∀ op ∈ (ops2 (F := F)), op.fresh = ∅ := by
  intro op h
  unfold ops2 at h
  simp only [List.mem_cons, List.mem_nil_iff, or_false] at h
  rcases h with rfl | rfl <;> rfl

set_option backward.isDefEq.respectTransparency.types false in
/-- The program on device `d`'s TensorCore. -/
theorem hmain (κ : GSem nD τ sig → ℕ) (d : Dev nD) :
    iprop((K (F := F)).ctx EH (P (NN m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (d : Thread nD τ) (Pipeline.ucRefs τ sig) (V0 m d) : sProp 𝕄)
    from Pipeline.unscopedBufs_held d (V0 m d)]
  rw [main_eq]
  iintro ⟨#Hctx, Hst, ⟨Hb, Hub, Hts, -⟩, Hg, Ht⟩
  iapply (StableHlo.wp_seq (E := Set.univ) 𝒱 none d (Pipeline.ucRefs τ sig) _ ops0 ops0_sub ops0_fresh (V0 m d)) $$ [Hb Hub]
  · isplitl [Hb]; · iexact Hb
    iexact Hub
  iintro ⟨Hb, Hub⟩
  rw [wp_bind]
  ihave Hub' := (Entails.of_eq (held_split m d)) $$ Hub
  icases Hub' with ⟨Hcall, Hrest⟩
  iapply ((K (F := F)).wp_run (D (F := F)) 𝒱 (EH := EH) (P := P (NN m)) κ d 0) $$ [Hst Hcall Hrest Hb Hts Hg Ht]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  ihave Hub := (Entails.of_eq (StableHlo.held_sub_split (d : Thread nD τ) callRefs_sub (V2 m d)).symm) $$ [Hdn' Hrest]
  · isplitl [Hdn']; · iexact Hdn'
    iexact Hrest
  iapply (StableHlo.wp_seq (E := Set.univ) 𝒱 none d (Pipeline.ucRefs τ sig) _ ops1 ops1_sub ops1_fresh (V2 m d)) $$ [Hb Hub]
  · isplitl [Hb]; · iexact Hb
    iexact Hub
  iintro ⟨Hb, Hub⟩
  rw [wp_bind]
  iapply ((K (F := F)).wp_liftProg (D (F := F)) 𝒱 (SparseCore.T d) Set.univ none)
  unfold SparseCore.Cfg.tcSt
  icases Hst with ⟨⟨%W, %hW, HO⟩, Hst⟩
  ihave HO' := (Entails.of_eq (show (owes (SparseCore.T d) ((K (F := F)).Otc d ((0 : Fin 1).val + 1)) W : sProp 𝕄) = owes (d : Thread nD τ) 0 W by rw [show (0 : Fin 1).val + 1 = 1 from rfl, Otc_end])) $$ HO
  rw [Otc_end]
  ihave Hlev := ((K (F := F)).ctx_levAts κ) $$ Hctx
  iapply (Pipeline.RegionSeg.wp (pcfgs (F := F)) adm (dats (V3 m)) none cellOf_inj EP defs₀ 𝒱₀ (K (F := F)).L (K (F := F)).lev (reg0 (V3 m)) d none
    (fun u hu => nomatch hu) .ret _) $$ [Hb Hub HO' Hst Hts Hg Ht Hlev]
  isplitl [Hst Hts]
  · iintro ⟨Hb, Hpost⟩
    ihave Hpost' := (Entails.of_eq (show (reg0 (V3 m)).post d = iprop(held (d : Thread nD τ) (Pipeline.ucRefs τ sig) (V4 m d) ∗ R d) from rfl)) $$ Hpost
    unfold R
    icases Hpost' with ⟨Hub, ⟨%W', %hW', HO⟩⟩
    rw [wp_ret]
    imodintro
    rw [← bind_pure (seq ops2)]
    iapply (StableHlo.wp_seq (E := Set.univ) 𝒱 none d (Pipeline.ucRefs τ sig) _ ops2 ops2_sub ops2_fresh (V4 m d)) $$ [Hb Hub]
    · isplitl [Hb]; · iexact Hb
      iexact Hub
    iintro ⟨Hb, Hub⟩
    rw [wp_pure]
    imodintro
    isplitl [HO Hst]
    · isplitl [HO]
      · iexists W'; isplitr; · ipureintro; exact hW'
        iexact HO
      iexact Hst
    isplitl [Hub]; · iexact Hub
    isplitl [Hb] <;> iassumption
  isplitl [Hb]; · iexact Hb
  isplitl [Hub HO']
  · rw [show (reg0 (V3 m)).pre d = iprop(held (d : Thread nD τ) (Pipeline.ucRefs τ sig) (V3 m d) ∗ R d) from rfl]
    isplitl [Hub]; · iexact Hub
    iexists W; isplitr; · ipureintro; exact hW
    iexact HO'
  isplitl [Hlev]; · iexact Hlev
  isplitl [Hg] <;> iassumption

/-! ## The end -/

/-- What a final state is: every array of the device at its final value. -/
def fq (d : Dev nD) (s' : Phys nD τ sig (Elt F)) : Prop := ∀ b ∈ Pipeline.ucRefs τ sig, s'.mem.mem (d, b) = V5 m d b

/-- It is, by what the TensorCore ends with. -/
theorem hfin (d : Dev nD) (s' : Phys nD τ sig (Elt F)) : iprop(FIN m d ∗ SI s') ⊢ (⌜fq m d s'⌝ : sProp 𝕄) := by
  have one : ∀ b : {b // b ∈ Pipeline.ucRefs τ sig}, iprop(FIN m d ∗ SI s') ⊢ (⌜s'.mem.mem (d, b.1) = V5 m d b.1⌝ : sProp 𝕄) := fun b => by
    refine (sep_mono_left (bigSep_elim b.2)).trans ?_
    iintro ⟨Hb, HSI⟩
    ihave H := (SI_pointsTo_agree (st := s') (ℓ := (d, b.1)) (I := Finset.univ) (q := fullShare) (f := V5 m d b.1)) $$ [HSI Hb]
    · isplitl [HSI] <;> iassumption
    icases H with %h
    ipureintro; exact funext fun i => h i (Finset.mem_univ i)
  exact ((Laws.forall_intro one).trans Laws.pure_forall.2).trans (Laws.pure_mono fun all b hb => all ⟨b, hb⟩)

/-- The run: from targets that are classes, to every array at its final value and every counter at zero. -/
theorem run_main [∀ e, Nonempty (Elt F e)] (hok : (NN m).Ok) :
    θ_run (Cert.KernelIdeal.defs (F := F)) (Cert.KernelIdeal.threads (F := F)) ⟨m, fun _ => 0, ρ⟩
      (fun r => (∀ d, ∀ b ∈ Pipeline.ucRefs τ sig, r.2.mem (d, b) = V5 m d b) ∧ r.2.sem = fun _ => 0) :=
  SparseCore.Cfg.θ_run_sc_quiescent (K := K (F := F)) (D := D (F := F)) (𝒱 := 𝒱) (EH := EH) (P := P (NN m)) (A := ∅) facts v₀
    (fun q hq => match q with | 0 => nomatch hq)
    (fun q _ => match q with | 0 => tileObl (NN m) facts hok)
    (fun q _ => match q with | 0 => SparseCore.Cfg.VecSplit.of_plain (vecSplit (NN m)))
    m ρ main G (FIN m) (u₀ (F := F)) (sep_elim_left.trans (hu₀ (NN m))) (hmain m ρ) (fq m) (hfin m)
    (fun r => (∀ d, ∀ b ∈ Pipeline.ucRefs τ sig, r.2.mem (d, b) = V5 m d b) ∧ r.2.sem = fun _ => 0) (fun _ h hz => ⟨h, hz⟩)

end Cert.Proof.OfKernelIdeal

end
-- ==== Proof.KernelIdeal.Ends.lean ====
/-
  The device's arrays at each stage of the program, read back to the arrays at launch: what the host operations leave, what
  the region leaves, and that the arguments stay as they were.
-/
module

public import proofs.«01_k».proof.Proof.KernelIdeal.Main

@[expose] public section

noncomputable section

namespace Cert.Proof.OfKernelIdeal

open Cert.KernelIdeal Cert.KernelIdeal.Gen

open Idealize.ShloMosaic
open Idealize.ShloMosaic.TcCoe
open Idealize.ShloMosaic.StableHlo

variable {F : FTy → Type} [FloatOps F]
variable (m : (ℓ : Loc nD τ sig) → Buf (Elt F) ℓ) (d : Dev nD)

/-- The logits, -/
abbrev xin : (⟨S1024x100000, .f32⟩ : BufTy).Contents (Elt F) := m (d, Proc.devRef .tc main_arg0)
/-- and the targets, at launch. -/
abbrev tin : (⟨S1024, .i32⟩ : BufTy).Contents (Elt F) := m (d, Proc.devRef .tc main_arg1)

theorem V1_arg0 : V1 m d main_arg0 = xin m d := by
  unfold V1 ops0; after_results; rfl
theorem V1_arg1 : V1 m d main_arg1 = tin m d := by
  unfold V1 ops0; after_results; rfl
/-- The transposed logits. -/
theorem V1_v0 : V1 m d main_v0 = transpose S100000x1024 [1, 0] (xin m d) transposes_S1024x100000_S100000x1024_1_0 := by
  unfold V1 ops0; after_results; rfl
/-- The flat logits. -/
theorem V1_v3 : V1 m d main_v3 = shapeCast S102400000 (transpose S12500x8x8x128 [0, 2, 1, 3]
    (shapeCast S12500x8x8x128 (transpose S100000x1024 [1, 0] (xin m d) transposes_S1024x100000_S100000x1024_1_0) shapeCasts_S100000x1024_S12500x8x8x128)
    transposes_S12500x8x8x128_S12500x8x8x128_0_2_1_3) shapeCasts_S12500x8x8x128_S102400000 := by
  unfold V1 ops0; after_results; rfl

/-- Only the call's result changes in the call. -/
theorem V2_ne (r : Ref sig .tc) (h : (Proc.devRef .tc r : DevRef τ sig) ≠ Proc.devRef .tc main_v4) : V2 m d r = V1 m d r :=
  Function.update_of_ne h _ _

/-- The row of targets before the region, -/
theorem V3_v5 : V3 m d main_v5 = shapeCast S1x1024 (tin m d) shapeCasts_S1024_S1x1024 := by
  rw [← V1_arg1, ← V2_arg1]; unfold V3 ops1; after_results; rfl
/-- the row of gathered logits, -/
theorem V3_v6 : V3 m d main_v6 = shapeCast S1x1024 ((NN m).out d) shapeCasts_S1024_S1x1024 := by
  rw [← V2_v4]; unfold V3 ops1; after_results; rfl
/-- and the transposed logits. -/
theorem V3_v0 : V3 m d main_v0 = transpose S100000x1024 [1, 0] (xin m d) transposes_S1024x100000_S100000x1024_1_0 := by
  rw [← V1_v0, ← V2_ne m d main_v0 (by decide)]; unfold V3 ops1; after_results
theorem V3_arg0 : V3 m d main_arg0 = xin m d := by
  rw [← V1_arg0, ← V2_ne m d main_arg0 (by decide)]; unfold V3 ops1; after_results
theorem V3_arg1 : V3 m d main_arg1 = tin m d := by
  rw [← V1_arg1, ← V2_arg1]; unfold V3 ops1; after_results

theorem V4_arg0 : V4 m d main_arg0 = xin m d :=
  (Pipeline.afterRegion_of_not_arr (dats (V3 m) 0 d) (V3 m d) (b := main_arg0) (by decide)).trans (V3_arg0 m d)
theorem V4_arg1 : V4 m d main_arg1 = tin m d :=
  (Pipeline.afterRegion_of_not_arr (dats (V3 m) 0 d) (V3 m d) (b := main_arg1) (by decide)).trans (V3_arg1 m d)

/-- The logits end as they were, -/
theorem V5_arg0 : V5 m d main_arg0 = xin m d := by
  rw [← V4_arg0]; unfold V5 ops2; after_results
/-- and the targets. -/
theorem V5_arg1 : V5 m d main_arg1 = tin m d := by
  rw [← V4_arg1]; unfold V5 ops2; after_results
/-- The loss is the region's second result, -/
theorem V5_v8 : V5 m d main_v8 = shapeCast S_ (V4 m d main_v7_1) shapeCasts_S1x1_S_ := by
  unfold V5 ops2; after_results; rfl
/-- the scaled logits its first, turned back. -/
theorem V5_v9 : V5 m d main_v9 = transpose S1024x100000 [1, 0] (V4 m d main_v7_0) transposes_S100000x1024_S1024x100000_1_0 := by
  unfold V5 ops2; after_results

/-- The call may read its targets when every target at launch is a class. -/
theorem ok_of_lt (h : ∀ d j, (tin m d j).toNat < 100000) : (NN m).Ok := fun d j => by
  show (V1 m d main_arg1 j).toNat < 100000
  rw [V1_arg1]; exact h d j

open Idealize.SL Idealize.SL.Sem in
/-- The run, with the four arrays of interest: the arguments as at launch, the results at their final values, every counter
    at zero. -/
theorem run_results [∀ e, Nonempty (Elt F e)] (ρ : Dev nD → PrngReg) (h : ∀ d j, (tin m d j).toNat < 100000) :
    θ_run (Cert.KernelIdeal.defs (F := F)) (Cert.KernelIdeal.threads (F := F)) ⟨m, fun _ => 0, ρ⟩
      (fun r => (∀ d : Dev nD, r.2.mem (d, Proc.devRef .tc main_arg0) = xin m d ∧ r.2.mem (d, Proc.devRef .tc main_arg1) = tin m d
          ∧ r.2.mem (d, Proc.devRef .tc main_v8) = V5 m d main_v8 ∧ r.2.mem (d, Proc.devRef .tc main_v9) = V5 m d main_v9)
        ∧ r.2.sem = fun _ => 0) :=
  (θ_run (Cert.KernelIdeal.defs (F := F)) _ _).mono (fun _ hr => ⟨fun d =>
    ⟨(hr.1 d _ (by decide)).trans (V5_arg0 m d), (hr.1 d _ (by decide)).trans (V5_arg1 m d), hr.1 d _ (by decide), hr.1 d _ (by decide)⟩, hr.2⟩)
    (run_main m ρ (ok_of_lt m h))

end Cert.Proof.OfKernelIdeal

end
-- ==== Proof.Value.Math.lean ====
/-
  The mathematics of the two programs over the extended reals: the clipped logit, the margin, the scaled logit, and the
  cross-entropy of a row, which is the same from the row's largest logit as from the constant 32.
-/
module

public import Idealize.ShloMosaic.Lib.IdealHost

@[expose] public section

noncomputable section

namespace Cert.Proof.Value

open Idealize.ShloMosaic
open scoped BigOperators

/-- The extended real that a float's word is. -/
abbrev w (b : BitVec 32) : EReal := Ideal.ofBits .f32 b

/-- A logit between -1 and 1. -/
def clip (v : EReal) : EReal := min (w 0x3F800000#32) (max (w 0xBF800000#32) v)

/-- The cosine of the angle with the margin added, from the cosine; past the threshold, the cosine with a constant taken off. -/
def margin (c : EReal) : EReal :=
  if w 0x00000000#32 < c - w 0xBF60A940#32 then
    c * w 0x3F60A940#32 - Ideal.sqrt (max (w 0x3F800000#32 - c * c) (w 0x33D6BF95#32)) * w 0x3EF57744#32
  else c - w 0x3E757744#32

/-- A logit as the loss reads it: with the margin where it is the target's, times 32. -/
def scaled (hit : Prop) [Decidable hit] (v : EReal) : EReal := (if hit then margin (clip v) else clip v) * w 0x42000000#32

/-- An extended real that is a real. -/
def IsReal (x : EReal) : Prop := ∃ r : ℝ, x = (r : EReal)

/-! ## Words -/

/-- A word whose exponent is not all ones is a real. -/
theorem isReal_word (b : BitVec 32) (h : (b.extractLsb' 23 8).toNat ≠ 255) : IsReal (w b) := by
  show IsReal (Ideal.ieee 8 23 b)
  unfold Ideal.ieee
  simp only
  rw [if_neg (by simpa using h)]
  split
  · exact ⟨_, rfl⟩
  · exact ⟨_, rfl⟩

theorem w_zero : w 0x00000000#32 = 0 := by simp [w, Ideal.ofBits, Ideal.ieee]
theorem w_one : w 0x3F800000#32 = 1 := Ideal.ofBits_one_f32
/-- A positive word of exponent field `ex` and fraction 0 is that power of two. -/
theorem word_pow (b : BitVec 32) (ex : ℕ) (hs : (b.extractLsb' (8 + 23) 1 == 1#1) = false) (he : (b.extractLsb' 23 8).toNat = ex)
    (hf : (b.extractLsb' 0 23).toNat = 0) (h0 : ex ≠ 0) (h1 : ex ≠ 255) : w b = ((2 ^ 23 * (2 : ℝ) ^ ((ex : ℤ) - 150) : ℝ) : EReal) := by
  show Ideal.ieee 8 23 b = _
  unfold Ideal.ieee
  simp only [hs, he, hf]
  rw [if_neg (by simpa using h1), if_neg h0]
  norm_num
  rw [show (ex : ℤ) - 127 - 23 = (ex : ℤ) - 150 by ring]
theorem w_32 : w 0x42000000#32 = ((32 : ℝ) : EReal) := by
  rw [word_pow _ 132 (by decide) (by decide) (by decide) (by decide) (by decide)]; norm_num
theorem w_1024 : w 0x44800000#32 = ((1024 : ℝ) : EReal) := by
  rw [word_pow _ 137 (by decide) (by decide) (by decide) (by decide) (by decide)]; norm_num
theorem w_1024th : w 0x3A800000#32 = ((1 / 1024 : ℝ) : EReal) := by
  rw [word_pow _ 117 (by decide) (by decide) (by decide) (by decide) (by decide)]; norm_num
theorem w_neg_one : IsReal (w 0xBF800000#32) := isReal_word _ (by decide)

/-! ## Reals stay reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.sqrt {x : EReal} (hx : IsReal x) (h0 : 0 ≤ x) : IsReal (Ideal.sqrt x) := by
  obtain ⟨a, rfl⟩ := hx
  rw [Ideal.sqrt_coe, if_neg (not_lt.mpr (EReal.coe_nonneg.mp h0))]
  exact ⟨_, rfl⟩

/-- A clipped logit is a real, whatever the logit. -/
theorem isReal_clip (v : EReal) : IsReal (clip v) := by
  unfold clip
  rw [w_one]
  obtain ⟨n, hn⟩ := w_neg_one
  rw [hn]
  induction v using EReal.rec with
  | bot => rw [max_eq_left bot_le]; exact IsReal.min ⟨1, rfl⟩ ⟨n, rfl⟩
  | coe r => exact IsReal.min ⟨1, rfl⟩ (IsReal.max ⟨n, rfl⟩ ⟨r, rfl⟩)
  | top => rw [max_eq_right le_top, min_eq_left le_top]; exact ⟨1, rfl⟩

/-- The epsilon under the root is positive. -/
theorem eps_nonneg : (0 : EReal) ≤ w 0x33D6BF95#32 := by
  show (0 : EReal) ≤ Ideal.ieee 8 23 0x33D6BF95#32
  unfold Ideal.ieee
  simp only
  rw [if_neg (by decide), if_neg (by decide)]
  refine EReal.coe_nonneg.mpr ?_
  rw [show ((0x33D6BF95#32 : BitVec 32).extractLsb' (8 + 23) 1 == 1#1) = false by decide]
  simp only [Bool.false_eq_true, if_false, one_mul]
  positivity

/-- With the margin it is a real too. -/
theorem IsReal.margin {c : EReal} (hc : IsReal c) : IsReal (margin c) := by
  unfold Value.margin
  split
  · refine (hc.mul (isReal_word _ (by decide))).sub (IsReal.mul (IsReal.sqrt ?_ (le_max_of_le_right eps_nonneg)) (isReal_word _ (by decide)))
    exact IsReal.max (IsReal.sub (isReal_word _ (by decide)) (hc.mul hc)) (isReal_word _ (by decide))
  · exact hc.sub (isReal_word _ (by decide))

/-- So is every scaled logit. -/
theorem isReal_scaled (hit : Prop) [Decidable hit] (v : EReal) : IsReal (scaled hit v) := by
  unfold scaled
  refine IsReal.mul ?_ (isReal_word _ (by decide))
  split
  · exact (isReal_clip v).margin
  · exact isReal_clip v

/-! ## The cross-entropy of a row -/

/-- A sum of reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- From any real shift, the logarithm of the sum of the shifted exponentials plus the shift is that of the unshifted ones. -/
theorem shift_log {ι : Type} [Fintype ι] [Nonempty ι] (o : ι → ℝ) (M : ℝ) :
    Ideal.log (∑ i, Ideal.exp ((o i : EReal) - (M : EReal))) = ((Real.log (∑ i, Real.exp (o i)) - M : ℝ) : EReal) := by
  have h1 : ∀ i, Ideal.exp ((o i : EReal) - (M : EReal)) = ((Real.exp (o i) * Real.exp (-M) : ℝ) : EReal) := fun i => by
    rw [← EReal.coe_sub, Ideal.exp_coe, sub_eq_add_neg, Real.exp_add]
  have hS : 0 < ∑ i, Real.exp (o i) := Finset.sum_pos (fun i _ => Real.exp_pos _) Finset.univ_nonempty
  simp only [h1]
  rw [coe_sum, ← Finset.sum_mul, Ideal.log_coe, if_neg (not_le.mpr (mul_pos hS (Real.exp_pos _))), Real.log_mul hS.ne' (Real.exp_pos _).ne',
    Real.log_exp]
  rfl

/-- The cross-entropy of a row of real logits `o` at its target `k`: taken from the row's maximum (or any real `M`), it is the
    one taken from the constant 32. -/
theorem cross_entropy {ι : Type} [Fintype ι] [Nonempty ι] (o : ι → EReal) (ho : ∀ i, IsReal (o i)) (M : EReal) (hM : IsReal M) (k : ι) :
    -((o k - M) - Ideal.log (w 0x00000000#32 + ∑ i, Ideal.exp (o i - M)))
      = (w 0x42000000#32 + Ideal.log (∑ i, Ideal.exp (o i - w 0x42000000#32))) - o k := by
  choose r hr using ho
  obtain ⟨m, rfl⟩ := hM
  rw [w_zero, zero_add, w_32]
  simp only [hr]
  rw [shift_log, shift_log]
  rw [← EReal.coe_sub, ← EReal.coe_sub, ← EReal.coe_neg, ← EReal.coe_add, ← EReal.coe_sub]
  exact congrArg _ (by ring)

/-- A quotient by 1024 is a product with its inverse. -/
theorem div_1024 (x : EReal) : Ideal.div x (w 0x44800000#32) = x * w 0x3A800000#32 := by
  rw [w_1024, w_1024th, Ideal.div_coe (by norm_num)]

/-- One-hot weights choose. -/
theorem one_hot_mix (hit : Prop) [Decidable hit] (p c : EReal) :
    ((if hit then w 0x3F800000#32 else w 0x00000000#32) * p + (w 0x3F800000#32 - (if hit then w 0x3F800000#32 else w 0x00000000#32)) * c)
      = if hit then p else c := by
  rw [w_one, w_zero]
  split
  · rw [show (1 : EReal) - 1 = 0 from by rw [← EReal.coe_one, ← EReal.coe_sub, sub_self, EReal.coe_zero], one_mul, zero_mul, add_zero]
  · rw [sub_zero, zero_mul, one_mul, zero_add]

end Cert.Proof.Value

end
-- ==== Proof.Value.Payload.lean ====
/-
  The kernel's blocks at an index: the margin row, the scaled block, the accumulator after a block, the loss.
-/
module

public import proofs.«01_k».proof.Proof.Value.Math
public import proofs.«01_k».proof.Proof.KernelIdeal.Values
public import Idealize.ShloMosaic.Lib.Pointwise

@[expose] public section

set_option maxRecDepth 16384

noncomputable section

namespace Cert.Proof.Value

open Cert.KernelIdeal Cert.KernelIdeal.Gen
open Idealize.ShloMosaic

/-- A choice by a comparison of numbers. -/
theorem choose_gt {α : Type} (x y : EReal) (a b : α) : Scalar.select (Ideal.cmp .ogt x y) a b = if y < x then a else b := by
  have : Ideal.cmp .ogt x y = BitVec.ofBool (decide (y < x)) := rfl
  rw [this]
  by_cases h : y < x
  · rw [decide_eq_true h, if_pos h]; rfl
  · rw [decide_eq_false h, if_neg h]; rfl

/-- The margin row. -/
theorem pay3_apply (v : FVec Ideal S1x1024 .f32) (b : Fin 1024) :
    k1_pay3 (F := Ideal) v (ix2 (0 : Fin 1) b) = margin (clip (v (ix2 (0 : Fin 1) b))) * w 0x42000000#32 := by
  have e : k1_pay3 (F := Ideal) v (ix2 (0 : Fin 1) b)
      = Scalar.select (Ideal.cmp .ogt (clip (v (ix2 (0 : Fin 1) b)) - w 0xBF60A940#32) (w 0x00000000#32))
          (clip (v (ix2 (0 : Fin 1) b)) * w 0x3F60A940#32 - Ideal.sqrt (max (w 0x3F800000#32 - clip (v (ix2 (0 : Fin 1) b)) * clip (v (ix2 (0 : Fin 1) b))) (w 0x33D6BF95#32)) * w 0x3EF57744#32)
          (clip (v (ix2 (0 : Fin 1) b)) - w 0x3E757744#32) * w 0x42000000#32 := by
    unfold k1_pay3
    simp only [shapeCast_self]
    rfl
  rw [e, choose_gt]
  rfl

/-- The accumulator starts at zero. -/
theorem pay4_apply (b : Fin 1024) : k1_pay4 (F := Ideal) (ix2 (0 : Fin 1) b) = w 0x00000000#32 := by
  unfold k1_pay4
  simp only [shapeCast_self]
  rfl

/-- The scaled block. -/
theorem pay6_apply (i : grid1.Coords) (v : FVec Ideal S2560x1024 .f32) (g : IVec S1x1024 32) (p : FVec Ideal S1x1024 .f32) (r : Fin 2560) (b : Fin 1024) :
    k1_pay6 (F := Ideal) i v g p (ix2 r b)
      = Scalar.select (IntOp.cmpi .eq (k1_pay5 i (ix2 r b)) (g (ix2 (0 : Fin 1) b))) (p (ix2 (0 : Fin 1) b)) (clip (v (ix2 r b)) * w 0x42000000#32) := by
  generalize hq : k1_pay5 i = q
  unfold k1_pay6
  rw [hq]
  pointwise
  unfold clip
  rw [w_one]

/-- The accumulator after a block. -/
theorem pay7_apply (i : grid1.Coords) (v : FVec Ideal S2560x1024 .f32) (g : IVec S1x1024 32) (p a : FVec Ideal S1x1024 .f32) (b : Fin 1024) :
    k1_pay7 (F := Ideal) i v g p a (ix2 (0 : Fin 1) b)
      = a (ix2 (0 : Fin 1) b) + ∑ r : Fin 2560, Scalar.select (IntOp.cmpi .slt (k1_pay5 i (ix2 r b)) 100000#32)
          (Ideal.exp (k1_pay6 (F := Ideal) i v g p (ix2 r b) - w 0x42000000#32)) (w 0x00000000#32) := by
  generalize hq : k1_pay5 i = q
  generalize hs : k1_pay6 (F := Ideal) i v g p = s
  unfold k1_pay7
  rw [hq, hs]
  pointwise [w]

/-- The loss. -/
theorem pay2_apply (a p : FVec Ideal S1x1024 .f32) (y z : Fin 1) :
    k1_pay2 (F := Ideal) a p (ix2 y z) = (∑ b : Fin 1024, ((w 0x42000000#32 + Ideal.log (a (ix2 (0 : Fin 1) b))) - p (ix2 (0 : Fin 1) b))) * w 0x3A800000#32 := by
  pointwise [k1_pay2, w]
  rw [Fintype.sum_unique]

end Cert.Proof.Value

end
-- ==== Proof.Value.Arrays.lean ====
/-
  What the streaming region leaves in its two results: the blocks side by side, and the loss.
-/
module

public import proofs.«01_k».proof.Proof.KernelIdeal.Region
public import Idealize.ShloMosaic.Lib.Pipeline.Value
public import Idealize.ShloMosaic.Lib.PointwiseCore

@[expose] public section

noncomputable section

namespace Cert.Proof.OfKernelIdeal

open Cert.KernelIdeal Cert.KernelIdeal.Gen

open Idealize.ShloMosaic
open Idealize.ShloMosaic.TcCoe

variable {F : FTy → Type} [FloatOps F]
variable (V : Dev nD → Valuation τ sig (Elt F))

/-- The point whose block holds a row. -/
def pointOf (r : ℕ) (h : r < 100000) : Fin grid1.N := ⟨r / 2560, by rw [N_1]; omega⟩

/-- The blocks side by side. -/
def whole (c : Dev nD) : S100000x1024.Idx → Elt F .f32 := fun i =>
  oblk V c (pointOf (i 0).val (i 0).isLt) (ix2 (⟨(i 0).val % 2560, Nat.mod_lt _ (by decide)⟩ : Fin 2560) (i 1 : Fin 1024))

/-- The block index of a point is the point. -/
theorem index3_row (t : Fin grid1.N) : win1_3.index t 0 = t.val := by
  have h : ∀ t : Fin grid1.N, win1_3.index t 0 = t.val := by decide
  exact h t

theorem index3_col (t : Fin grid1.N) : win1_3.index t 1 = 0 := by
  have h : ∀ t : Fin grid1.N, win1_3.index t 1 = 0 := by decide
  exact h t

theorem index2_row (t : Fin grid1.N) : win1_2.index t 0 = t.val := by
  have h : ∀ t : Fin grid1.N, win1_2.index t 0 = t.val := by decide
  exact h t

theorem index2_col (t : Fin grid1.N) : win1_2.index t 1 = 0 := by
  have h : ∀ t : Fin grid1.N, win1_2.index t 1 = 0 := by decide
  exact h t

/-- An index lies in a point's block exactly if the point holds its row. -/
theorem mem_block (t : Fin grid1.N) (i : S100000x1024.Idx) :
    i ∈ (win1_3.blk t).view.setOn Finset.univ ↔ (i 0).val / 2560 = t.val := by
  rw [View.setOn_univ]
  show i ∈ ((View.whole main_v7_0).slice (win1_3.rect t)).set ↔ _
  rw [View.set_slice_whole, Rect.mem_set_unit]
  have hr := xsize2_row t
  have hc := xsize2_col t
  have ht : t.val < 40 := N_1 ▸ t.isLt
  have h0 : (i 0).val < 100000 := (i 0).isLt
  have h1 : (i 1).val < 1024 := (i 1).isLt
  have e0 := index3_row t
  have e1 := index3_col t
  constructor
  · intro h
    have h' : win1_3.index t 0 * 2560 ≤ (i 0).val ∧ (i 0).val < win1_3.index t 0 * 2560 + win1_2.xsize (grid1.coords t) 0 := h 0
    rw [e0, hr] at h'
    split at h' <;> omega
  · intro h a
    match a with
    | ⟨0, _⟩ =>
      show win1_3.index t 0 * 2560 ≤ (i 0).val ∧ (i 0).val < win1_3.index t 0 * 2560 + win1_2.xsize (grid1.coords t) 0
      rw [e0, hr]; split <;> omega
    | ⟨1, _⟩ =>
      show win1_3.index t 1 * 1024 ≤ (i 1).val ∧ (i 1).val < win1_3.index t 1 * 1024 + win1_2.xsize (grid1.coords t) 1
      rw [e1, hc]; omega

/-- A block's rows inside the array are those rows of the whole. -/
theorem cut_oblk (c : Dev nD) (t : Fin grid1.N) :
    win1_3.cut (grid1.coords t) (oblk V c t) = (win1_3.blk t).view.read (Elt F) (whole V c) := by
  funext j
  have ht : t.val < 40 := N_1 ▸ t.isLt
  have hj0 : (j 0).val < 2560 := lt_of_lt_of_le (j 0).isLt (by
    show win1_2.xsize (grid1.coords t) 0 ≤ 2560
    rw [xsize2_row]; split <;> omega)
  have hi0 : (((win1_3.blk t).view.emb j) 0).val = t.val * 2560 + (j 0).val := by
    show win1_3.index t 0 * 2560 + 1 * (j 0).val = _
    rw [index3_row]; omega
  have hi1 : (((win1_3.blk t).view.emb j) 1).val = (j 1).val := by
    show win1_3.index t 1 * 1024 + 1 * (j 1).val = _
    rw [index3_col]; omega
  show oblk V c t _ = whole V c ((win1_3.blk t).view.emb j)
  unfold whole
  have et : pointOf (((win1_3.blk t).view.emb j) 0).val (((win1_3.blk t).view.emb j) 0).isLt = t := Fin.ext (by
    show (((win1_3.blk t).view.emb j) 0).val / 2560 = t.val
    rw [hi0]; omega)
  rw [et]
  refine congrArg (oblk V c t) (funext fun a => Fin.ext ?_)
  match a with
  | ⟨0, _⟩ => show (j 0).val = (((win1_3.blk t).view.emb j) 0).val % 2560; rw [hi0]; omega
  | ⟨1, _⟩ => exact hi1.symm

/-- A row is in place once its point is past. -/
theorem arr3_apply (c : Dev nD) (n : ℕ) (hn : n ≤ 40) (i : S100000x1024.Idx) (hi : (i 0).val / 2560 < n) :
    (dats V 0 c).arrAt (3 : Fin 5) n i = whole V c i := by
  induction n with
  | zero => omega
  | succ n ih =>
    have hN : n < cfg1.N := by rw [show cfg1.N = 40 from N_1]; omega
    have e := (dats V 0 c).arrAt_succ_apply (3 : Fin 5) n i
    rw [dif_pos hN, if_pos (flush1_3 ⟨n, hN⟩)] at e
    rw [e]
    have ef : (dats V 0 c).flushed (3 : Fin 5) ⟨n, hN⟩ = (win1_3.blk ⟨n, hN⟩).view.read (Elt F) (whole V c) := cut_oblk V c ⟨n, hN⟩
    rw [ef]
    refine (congrFun ((win1_3.blk ⟨n, hN⟩).view.write_read_eq_piecewise ((dats V 0 c).arrAt (3 : Fin 5) n) (whole V c) Finset.univ) i).trans ?_
    by_cases hm : (i 0).val / 2560 = n
    · exact Finset.piecewise_eq_of_mem _ _ _ ((mem_block ⟨n, hN⟩ i).mpr hm)
    · refine (Finset.piecewise_eq_of_notMem _ _ _ (fun h => hm ((mem_block ⟨n, hN⟩ i).mp h))).trans ?_
      exact ih (by omega) (by omega)

/-- The first result is the blocks side by side. -/
theorem arr3 (c : Dev nD) : (dats V 0 c).arrAt (3 : Fin 5) cfg1.N = whole V c := by
  rw [show cfg1.N = 40 from N_1]
  funext i
  have h0 : (i 0).val < 100000 := (i 0).isLt
  exact arr3_apply V c 40 (le_refl _) i (by omega)

/-- The one element of the loss's block is the loss's one element. -/
theorem blk4 (t : Fin grid1.N) (f : S1x1.Idx → Elt F .f32) : (win1_4.blk t).view.read (Elt F) f = f := by
  funext y
  refine congrArg f (funext fun a => Fin.ext ?_)
  match a with
  | 0 => show 0 * 1 + 1 * (y 0).val = (y 0).val; omega
  | 1 => show 0 * 1 + 1 * (y 1).val = (y 1).val; omega

/-- The second result is the loss. -/
theorem arr4 (c : Dev nD) : (dats V 0 c).arrAt (4 : Fin 5) cfg1.N = lossOf V c := by
  rw [show cfg1.N = 39 + 1 from N_1]
  funext i
  have hN : 39 < cfg1.N := by rw [show cfg1.N = 40 from N_1]; omega
  have e := (dats V 0 c).arrAt_succ_apply (4 : Fin 5) 39 i
  rw [dif_pos hN, if_pos ((flush1_4 ⟨39, hN⟩).mpr rfl)] at e
  rw [e]
  have ef : (dats V 0 c).flushed (4 : Fin 5) ⟨39, hN⟩ = (win1_4.blk ⟨39, hN⟩).view.read (Elt F) (lossOf V c) := (blk4 ⟨39, hN⟩ (lossOf V c)).symm
  rw [ef]
  refine (congrFun ((win1_4.blk ⟨39, hN⟩).view.write_read_eq_piecewise ((dats V 0 c).arrAt (4 : Fin 5) 39) (lossOf V c) Finset.univ) i).trans ?_
  refine Finset.piecewise_eq_of_mem _ _ _ (Finset.mem_map.mpr ⟨i, Finset.mem_univ _, funext fun a => Fin.ext ?_⟩)
  match a with
  | 0 => show 0 * 1 + 1 * (i 0).val = (i 0).val; omega
  | 1 => show 0 * 1 + 1 * (i 1).val = (i 1).val; omega

/-- What a block of logits holds inside the array. -/
theorem xfull_apply (c : Dev nD) (t : Fin grid1.N) (r : Fin 2560) (b : Fin 1024) (h : 2560 * t.val + r.val < 100000) :
    xfull V c t (ix2 r b) = (V c main_v0 : S100000x1024.Idx → Elt F .f32) (ix2 (⟨2560 * t.val + r.val, h⟩ : Fin 100000) b) := by
  have hm : win1_2.moved (grid1.coords t) (ix2 r b) = true := (moved2_iff t (ix2 r b)).mpr h
  unfold xfull Pipeline.Window.fill
  rw [dif_pos hm]
  unfold xblk
  refine congrArg (V c main_v0 : S100000x1024.Idx → Elt F .f32) (funext fun a => Fin.ext ?_)
  match a with
  | ⟨0, _⟩ =>
    show win1_2.index t 0 * 2560 + 1 * r.val = 2560 * t.val + r.val
    rw [index2_row]; omega
  | ⟨1, _⟩ =>
    show win1_2.index t 1 * 1024 + 1 * b.val = b.val
    rw [index2_col]; omega

end Cert.Proof.OfKernelIdeal

end
-- ==== Proof.Value.KernelOut.lean ====
/-
  The streaming region's two results over numbers, from the logits, the targets and the gathered logits it finds: the
  scaled logits with the margin at the target, and the mean of the cross entropies.
-/
module

public import proofs.«01_k».proof.Proof.Value.Payload
public import proofs.«01_k».proof.Proof.Value.Arrays

@[expose] public section

set_option maxRecDepth 16384

noncomputable section

namespace Cert.Proof.Value

open Cert.KernelIdeal Cert.KernelIdeal.Gen
open Idealize.ShloMosaic
open Cert.Proof.OfKernelIdeal
open Idealize.ShloMosaic.TcCoe

/-- A choice by the equality of two words. -/
theorem choose_eq {α : Type} (x y : BitVec 32) (a b : α) : Scalar.select (IntOp.cmpi .eq x y) a b = if x = y then a else b := by
  have : IntOp.cmpi .eq x y = BitVec.ofBool (x == y) := rfl
  rw [this]
  by_cases h : x = y
  · rw [if_pos h, beq_iff_eq.mpr h]; rfl
  · rw [if_neg h, beq_eq_false_iff_ne.mpr h]; rfl

/-- The region finds the logits turned, the targets, and each row's logit at its target. -/
structure Finds (V : Dev nD → Valuation τ sig (Elt Ideal)) (c : Dev nD) (x : S1024x100000.Idx → EReal) (t : S1024.Idx → BitVec 32)
    (ht : ∀ j, (t j).toNat < 100000) : Prop where
  logits : ∀ (k : Fin 100000) (b : Fin 1024), (V c main_v0 : S100000x1024.Idx → EReal) (ix2 k b) = x (ix2 b k)
  targets : ∀ b : Fin 1024, tgt V c (ix2 (0 : Fin 1) b) = t (ix1 b)
  gathered : ∀ b : Fin 1024, gat V c (ix2 (0 : Fin 1) b) = x (ix2 b (⟨(t (ix1 b)).toNat, ht (ix1 b)⟩ : Fin 100000))

variable {V : Dev nD → Valuation τ sig (Elt Ideal)} {c : Dev nD} {x : S1024x100000.Idx → EReal} {t : S1024.Idx → BitVec 32}
  {ht : ∀ j, (t j).toNat < 100000} (H : Finds V c x t ht)

/-- The scaled logits with the margin at the target. -/
def outAt (x : S1024x100000.Idx → EReal) (t : S1024.Idx → BitVec 32) (b : Fin 1024) (k : Fin 100000) : EReal :=
  scaled ((t (ix1 b)).toNat = k.val) (x (ix2 b k))

include H

/-- The margin row. -/
theorem ph_apply (b : Fin 1024) : ph V c (ix2 (0 : Fin 1) b) = outAt x t b (⟨(t (ix1 b)).toNat, ht (ix1 b)⟩ : Fin 100000) := by
  unfold ph
  rw [pay3_apply, H.gathered]
  unfold outAt scaled
  rw [if_pos rfl]

/-- A block inside the array. -/
theorem oblk_apply (p : Fin grid1.N) (r : Fin 2560) (b : Fin 1024) (h : 2560 * p.val + r.val < 100000) :
    oblk V c p (ix2 r b) = outAt x t b (⟨2560 * p.val + r.val, h⟩ : Fin 100000) := by
  unfold oblk
  rw [pay6_apply, choose_eq, ph_apply H, H.targets, xfull_apply V c p r b h, H.logits]
  have e5 : k1_pay5 (grid1.coords p) (ix2 r b) = BitVec.ofNat 32 (2560 * p.val + r.val) := pay5_at p (ix2 r b)
  rw [e5]
  have hb := ht (ix1 b)
  by_cases hit : (t (ix1 b)).toNat = 2560 * p.val + r.val
  · have e : BitVec.ofNat 32 (2560 * p.val + r.val) = t (ix1 b) := BitVec.eq_of_toNat_eq (by rw [BitVec.toNat_ofNat, hit]; omega)
    rw [if_pos e]
    exact congrArg (outAt x t b) (Fin.ext hit)
  · have e : BitVec.ofNat 32 (2560 * p.val + r.val) ≠ t (ix1 b) := fun e => hit (by rw [← e, BitVec.toNat_ofNat]; omega)
    rw [if_neg e]
    unfold outAt scaled
    rw [if_neg hit]

/-- The first result. -/
theorem whole_apply (k : Fin 100000) (b : Fin 1024) : whole V c (ix2 k b) = outAt x t b k := by
  have hk := k.isLt
  have hh : 2560 * (pointOf k.val k.isLt).val + k.val % 2560 < 100000 := by
    show 2560 * (k.val / 2560) + k.val % 2560 < 100000
    omega
  refine (oblk_apply H (pointOf k.val k.isLt) (⟨k.val % 2560, Nat.mod_lt _ (by decide)⟩ : Fin 2560) b hh).trans ?_
  refine congrArg (outAt x t b) (Fin.ext ?_)
  show 2560 * (k.val / 2560) + k.val % 2560 = k.val
  omega

/-- A row's term of the sum of exponentials; nothing past the array's end. -/
def term (x : S1024x100000.Idx → EReal) (t : S1024.Idx → BitVec 32) (b : Fin 1024) (k : ℕ) : EReal :=
  if h : k < 100000 then Ideal.exp (outAt x t b (⟨k, h⟩ : Fin 100000) - w 0x42000000#32) else 0

/-- The accumulator before a point. -/
theorem acc_apply (b : Fin 1024) (n : ℕ) (hn : n ≤ 40) : accB V c n (ix2 (0 : Fin 1) b) = ∑ k ∈ Finset.range (2560 * n), term x t b k := by
  induction n with
  | zero =>
    show k1_pay4 (F := Ideal) (ix2 (0 : Fin 1) b) = _
    rw [pay4_apply, w_zero]
    rfl
  | succ n ih =>
    have hN : n < grid1.N := by rw [N_1]; omega
    have e := congrFun (accB_succ V c ⟨n, hN⟩) (ix2 (0 : Fin 1) b)
    rw [pay7_apply, ih (by omega)] at e
    refine e.trans ?_
    rw [show 2560 * (n + 1) = 2560 * n + 2560 by ring, Finset.sum_range_add, Finset.sum_range (fun k => term x t b (2560 * n + k))]
    refine congrArg (_ + ·) (Finset.sum_congr rfl fun r _ => ?_)
    unfold term
    by_cases h : 2560 * n + r.val < 100000
    · rw [dif_pos h, (slt_iff ⟨n, hN⟩ (ix2 r b)).mpr h]
      refine congrArg (fun v => Ideal.exp (v - w 0x42000000#32)) ?_
      exact oblk_apply H ⟨n, hN⟩ r b h
    · rw [dif_neg h]
      refine Eq.trans ?_ w_zero
      exact if_neg (fun e => h ((slt_iff ⟨n, hN⟩ (ix2 r b)).mp e))

/-- The accumulator after the last: the sum over the row. -/
theorem acc_last (b : Fin 1024) : accB V c 40 (ix2 (0 : Fin 1) b) = ∑ k : Fin 100000, Ideal.exp (outAt x t b k - w 0x42000000#32) := by
  rw [acc_apply H b 40 (le_refl _), show 2560 * 40 = 100000 + 2400 by norm_num, Finset.sum_range_add,
    Finset.sum_eq_zero (s := Finset.range 2400) (fun k _ => dif_neg (by omega)), add_zero, Finset.sum_range]
  exact Finset.sum_congr rfl fun k _ => dif_pos k.isLt

/-- The second result. -/
theorem lossOf_apply (y z : Fin 1) :
    lossOf V c (ix2 y z) = (∑ b : Fin 1024, ((w 0x42000000#32 + Ideal.log (∑ k : Fin 100000, Ideal.exp (outAt x t b k - w 0x42000000#32)))
      - outAt x t b (⟨(t (ix1 b)).toNat, ht (ix1 b)⟩ : Fin 100000))) * w 0x3A800000#32 := by
  unfold lossOf
  rw [pay2_apply]
  refine congrArg (· * w 0x3A800000#32) (Finset.sum_congr rfl fun b _ => ?_)
  rw [acc_last H, ph_apply H]

end Cert.Proof.Value

end
-- ==== Proof.Value.Found.lean ====
/-
  What the streaming region finds, from the arguments: the logits turned, the targets, and each row's logit at its
  target, read back through the order in which the logits lie in the flat array.
-/
module

public import proofs.«01_k».proof.Proof.KernelIdeal.Ends
public import proofs.«01_k».proof.Proof.Value.KernelOut

@[expose] public section

set_option maxRecDepth 16384

noncomputable section

namespace Cert.Proof.Value

open Cert.KernelIdeal Cert.KernelIdeal.Gen
open Idealize.ShloMosaic
open Cert.Proof.OfKernelIdeal
open Cert.Proof.Word
open Idealize.ShloMosaic.TcCoe

/-- The flat array of an array of logits. -/
def flat (x : FVec Ideal S1024x100000 .f32) : FVec Ideal S102400000 .f32 :=
  shapeCast S102400000 (transpose S12500x8x8x128 [0, 2, 1, 3]
    (shapeCast S12500x8x8x128 (transpose S100000x1024 [1, 0] x transposes_S1024x100000_S100000x1024_1_0) shapeCasts_S100000x1024_S12500x8x8x128)
    transposes_S12500x8x8x128_S12500x8x8x128_0_2_1_3) shapeCasts_S12500x8x8x128_S102400000

/-- The flat array at the position of row `b` and class `k`. -/
theorem flat_pos (x : FVec Ideal S1024x100000 .f32) (b : Fin 1024) (k : Fin 100000) :
    flat x (ix1 (⟨pos b.val k.val, pos_lt b.isLt k.isLt⟩ : Fin 102400000)) = x (ix2 b k) := by
  unfold flat
  pointwise
  have hb := b.isLt
  have hk := k.isLt
  have e0 : pos b.val k.val / 1024 % 8 * 128 + pos b.val k.val % 128 = b.val := by unfold pos; omega
  have e1 : pos b.val k.val / 8192 * 8 + pos b.val k.val / 128 % 8 = k.val := by unfold pos; omega
  exact congrArg₂ (fun p q => x (ix2 p q)) (Fin.ext e0) (Fin.ext e1)

/-- The logits' place of a row. -/
theorem place_eq (t : S1024.Idx → BitVec 32) (ht : ∀ j, (t j).toNat < 100000) (b : Fin 1024) :
    place t (ix1 b) = ix1 (⟨pos b.val (t (ix1 b)).toNat, pos_lt b.isLt (ht _)⟩ : Fin 102400000) := by
  refine funext fun a => Fin.ext ?_
  match a with
  | 0 =>
    have hb := b.isLt
    have e : (BitVec.ofNat 32 b.val).toNat = b.val := by rw [BitVec.toNat_ofNat]; omega
    show (word (BitVec.ofNat 32 b.val) (t (ix1 b))).toNat % 102400000 = pos b.val (t (ix1 b)).toNat
    rw [word_toNat (by rw [e]; exact hb) (ht _), e]
    exact Nat.mod_eq_of_lt (pos_lt hb (ht _))

variable (m : (ℓ : Loc nD τ sig) → Buf (Elt Ideal) ℓ) (d : Dev nD)

/-- What the gathering call brings back. -/
theorem out_gathered (ht : ∀ j, (tin m d j : BitVec 32).toNat < 100000) (b : Fin 1024) :
    ((NN m).out d : S1024.Idx → EReal) (ix1 b) = (xin m d : S1024x100000.Idx → EReal) (ix2 b (⟨_, ht (ix1 b)⟩ : Fin 100000)) := by
  show (V1 m d main_v3 : S102400000.Idx → EReal) (place (V1 m d main_arg1) (ix1 b)) = _
  rw [V1_arg1, V1_v3, place_eq _ ht]
  exact flat_pos (xin m d) b (⟨_, ht (ix1 b)⟩ : Fin 100000)

/-- What the region finds. -/
theorem finds (ht : ∀ j, (tin m d j : BitVec 32).toNat < 100000) : Finds (V3 m) d (xin m d) (tin m d) ht where
  logits k b := by
    refine (congrFun (V3_v0 m d) (ix2 k b)).trans ?_
    pointwise
  targets b := by
    refine (congrFun (V3_v5 m d) (ix2 (0 : Fin 1) b)).trans ?_
    pointwise
  gathered b := by
    refine (congrFun (V3_v6 m d) (ix2 (0 : Fin 1) b)).trans ?_
    refine Eq.trans ?_ (out_gathered m d ht b)
    pointwise

/-- The region's first result. -/
theorem V4_v7_0 : V4 m d main_v7_0 = whole (V3 m) d :=
  (Pipeline.afterRegion_arr (dats (V3 m) 0 d) (V3 m d) launch1.win.arr_inj (3 : Fin 5)).trans (arr3 (V3 m) d)

/-- The region's second. -/
theorem V4_v7_1 : V4 m d main_v7_1 = lossOf (V3 m) d :=
  (Pipeline.afterRegion_arr (dats (V3 m) 0 d) (V3 m d) launch1.win.arr_inj (4 : Fin 5)).trans (arr4 (V3 m) d)

/-- The kernel's second result at an index. -/
theorem V5_v9_apply (ht : ∀ j, (tin m d j : BitVec 32).toNat < 100000) (b : Fin 1024) (k : Fin 100000) :
    (V5 m d main_v9 : S1024x100000.Idx → EReal) (ix2 b k) = outAt (xin m d) (tin m d) b k := by
  refine (congrFun (V5_v9 m d) (ix2 b k)).trans ?_
  rw [V4_v7_0]
  refine Eq.trans ?_ (whole_apply (finds m d ht) k b)
  pointwise

/-- The kernel's first result. -/
theorem V5_v8_apply (ht : ∀ j, (tin m d j : BitVec 32).toNat < 100000) (j : S_.Idx) :
    (V5 m d main_v8 : S_.Idx → EReal) j
      = (∑ b : Fin 1024, ((w 0x42000000#32 + Ideal.log (∑ k : Fin 100000, Ideal.exp (outAt (xin m d) (tin m d) b k - w 0x42000000#32)))
          - outAt (xin m d) (tin m d) b (⟨_, ht (ix1 b)⟩ : Fin 100000))) * w 0x3A800000#32 := by
  refine (congrFun (V5_v8 m d) j).trans ?_
  rw [V4_v7_1]
  refine Eq.trans ?_ (lossOf_apply (finds m d ht) (0 : Fin 1) (0 : Fin 1))
  pointwise

end Cert.Proof.Value

end
-- ==== Proof.Value.Hot.lean ====
/-
  The reference's one-hot array: at row `b`, 1 at the target of `b` and 0 elsewhere.
-/
module

public import proofs.«01_k».proof.Proof.Value.Math
public import proofs.«01_k».proof.Proof.Gen.ReferenceIdeal
public import Idealize.ShloMosaic.Lib.Routing.OpsSet
public import Idealize.ShloMosaic.Lib.Routing.OpsPair

@[expose] public section

noncomputable section

namespace Cert.Proof.Value

open Cert.ReferenceIdeal Cert.ReferenceIdeal.Gen
open Idealize.ShloMosaic Idealize.ShloMosaic.ValueIdx Idealize.ShloMosaic.Routing
open Cert.ReferenceIdeal.Facts

attribute [local instance] Cert.ReferenceIdeal.Gen.facts

/-- A negative index counts from the end; one that is not negative stays. -/
theorem wrap_word (v c : BitVec 32) (h : v.toNat < 2 ^ 31) : Scalar.select (IntOp.cmpi .slt v 0#32) c v = v := by
  have : IntOp.cmpi .slt v 0#32 = 0#1 := by
    show BitVec.ofBool (v.slt 0#32) = 0#1
    rw [BitVec.slt_eq_decide, decide_eq_false]
    · rfl
    · rw [BitVec.toInt_eq_toNat_cond, if_pos (by omega)]; simp
  rw [this]; rfl

/-- Rows beside targets: where the ones are written. -/
def hotAt (t : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt t (broadcastInDim S1024 ![] bcast_S_S1024 (constantI S_ 32 0#32))) (addi t (broadcastInDim S1024 ![] bcast_S_S1024 (constantI S_ 32 100000#32))) t))⟩] concatenates_S1024x1_S1024x1_S1024x2_d1

/-- The one-hot array. -/
def hot (t : IVec S1024 32) : FVec Ideal S1024x100000 .f32 :=
  Host.scatter scatter_S1024x100000_S1024x2_S1024_n_01_01_1 (fun _ b => b) (broadcastInDim S1024x100000 ![] bcast_S_S1024x100000 (constant S_ .f32 0x00000000#32)) (hotAt t) (broadcastInDim S1024 ![] bcast_S_S1024 (constant S_ .f32 0x3F800000#32))

/-- Its first column is the row, -/
theorem hotAt_zero (t : IVec S1024 32) (i : Fin 1024) : hotAt t (ix2 i (0 : Fin 2)) = BitVec.ofNat 32 i.val := by
  have h : hotAt t (ix2 i (0 : Fin 2)) = Scalar.select (IntOp.cmpi .slt (BitVec.ofNat 32 i.val) 0#32) (IntOp.addi (BitVec.ofNat 32 i.val) 1024#32) (BitVec.ofNat 32 i.val) := rfl
  rw [h, wrap_word _ _ (by rw [BitVec.toNat_ofNat]; omega)]

/-- its second the target. -/
theorem hotAt_one (t : IVec S1024 32) (ht : ∀ j, (t j).toNat < 100000) (i : Fin 1024) : hotAt t (ix2 i (1 : Fin 2)) = t (ix1 i) := by
  have h : ∃ q : S1024.Idx, hotAt t (ix2 i (1 : Fin 2)) = Scalar.select (IntOp.cmpi .slt (t q) 0#32) (IntOp.addi (t q) 100000#32) (t q) ∧ q 0 = i := ⟨_, rfl, rfl⟩
  obtain ⟨q, h, e⟩ := h
  rw [h, wrap_word _ _ (by have := ht q; omega), eq_ix1 q, e]
  rfl

/-- Update `i` lands in row `i` at its target. -/
theorem hot_lands (t : IVec S1024 32) (ht : ∀ j, (t j).toNat < 100000) (i b : Fin 1024) (k : Fin 100000) :
    scatter_S1024x100000_S1024x2_S1024_n_01_01_1.resultIdx? (ix1 i) (hotAt t) = some (ix2 b k) ↔ i = b ∧ (t (ix1 i)).toNat = k.val := by
  have s0 : scatter_S1024x100000_S1024x2_S1024_n_01_01_1.start (ix1 i) (hotAt t) 0 = (hotAt t (ix2 i (0 : Fin 2))).toInt := by
    unfold ScatterDims.start
    rw [dif_pos (by decide)]
    refine congrArg (fun q => (hotAt t q).toInt) (funext fun a => ?_)
    match a with
    | ⟨0, _⟩ => rfl
    | ⟨1, _⟩ => rfl
  have s1 : scatter_S1024x100000_S1024x2_S1024_n_01_01_1.start (ix1 i) (hotAt t) 1 = (hotAt t (ix2 i (1 : Fin 2))).toInt := by
    unfold ScatterDims.start
    rw [dif_pos (by decide)]
    refine congrArg (fun q => (hotAt t q).toInt) (funext fun a => ?_)
    match a with
    | ⟨0, _⟩ => rfl
    | ⟨1, _⟩ => rfl
  have w0 : scatter_S1024x100000_S1024x2_S1024_n_01_01_1.window (ix1 i) 0 = 0 := rfl
  have w1 : scatter_S1024x100000_S1024x2_S1024_n_01_01_1.window (ix1 i) 1 = 0 := rfl
  have h := ht (ix1 i)
  have hi := i.isLt
  rw [show (ix2 b k : S1024x100000.Idx) = (ix2 b k : (shape2 1024 100000).Idx) from rfl]
  refine (resultIdx?_ix2 (R := 1024) (C := 100000) scatter_S1024x100000_S1024x2_S1024_n_01_01_1 (ix1 i) (hotAt t) b k).trans ?_
  rw [s0, s1, w0, w1, hotAt_zero, hotAt_one t ht, BitVec.toInt_eq_toNat_cond, BitVec.toInt_eq_toNat_cond, BitVec.toNat_ofNat, if_pos (by omega), if_pos (by omega), Fin.ext_iff]
  omega

/-- The one-hot array at an index. -/
theorem hot_apply (t : IVec S1024 32) (ht : ∀ j, (t j).toNat < 100000) (b : Fin 1024) (k : Fin 100000) :
    hot t (ix2 b k) = if (t (ix1 b)).toNat = k.val then w 0x3F800000#32 else w 0x00000000#32 := by
  unfold hot
  split
  · next h =>
    exact scatter_set_hit _ _ _ _ _ _ (fun _ _ => rfl) (ix1 b) ((hot_lands t ht b b k).mpr ⟨rfl, h⟩)
  · next h =>
    refine scatter_set_miss _ _ _ _ _ (fun q => ?_)
    obtain ⟨i, rfl⟩ : ∃ i : Fin 1024, q = ix1 i := ⟨q 0, eq_ix1 q⟩
    intro e
    obtain ⟨rfl, e'⟩ := (hot_lands t ht i b k).mp e
    exact h e'

end Cert.Proof.Value

end
-- ==== Proof.Value.RefLoss.lean ====
/-
  The reference's first result in pieces: the rows' maxima, the logarithm of the softmax, its entries at the
  targets, and their mean.
-/
module

public import proofs.«01_k».proof.Proof.Value.Hot
public import proofs.«01_k».proof.Proof.Gen.ReferenceIdeal.Run
public import Idealize.ShloMosaic.Lib.Pointwise

@[expose] public section

set_option maxRecDepth 16384

noncomputable section

namespace Cert.Proof.Value

open Cert.ReferenceIdeal Cert.ReferenceIdeal.Gen
open Idealize.ShloMosaic
open Cert.ReferenceIdeal.Facts

attribute [local instance] Cert.ReferenceIdeal.Gen.facts

/-- The greatest entry of each row. -/
def top (o : FVec Ideal S1024x100000 .f32) : FVec Ideal S1024 .f32 :=
  maximumf (broadcastInDim S1024 ![] bcast_S_S1024 (constant S_ .f32 0xFF800000#32)) (Host.reduce FloatOps.maximumf o (constant S_ .f32 0xFF800000#32) reducesTo_S1024x100000_S1024_d1 h_S_)

/-- Each entry less its row's number. -/
def less (o : FVec Ideal S1024x100000 .f32) (M : FVec Ideal S1024 .f32) : FVec Ideal S1024x100000 .f32 :=
  subf o (broadcastInDim S1024x100000 ![0, 1] bcast_S1024x1_S1024x100000_0_1 (broadcastInDim S1024x1 ![0] bcast_S1024_S1024x1_0 M))

/-- Each entry less the logarithm of its row's sum of exponentials. -/
def soft (o : FVec Ideal S1024x100000 .f32) : FVec Ideal S1024x100000 .f32 :=
  subf o (broadcastInDim S1024x100000 ![0, 1] bcast_S1024x1_S1024x100000_0_1 (Host.log (broadcastInDim S1024x1 ![0] bcast_S1024_S1024x1_0 (Host.reduceAdd (Host.exp o) (constant S_ .f32 0x00000000#32) reducesTo_S1024x100000_S1024_d1 h_S_))))

/-- The targets as a column, a negative one counted from the end. -/
def col (t : IVec S1024 32) : IVec S1024x1 32 :=
  select (cmpi .slt (broadcastInDim S1024x1 ![0] bcast_S1024_S1024x1_0 t) (broadcastInDim S1024x1 ![] bcast_S_S1024x1 (constantI S_ 32 0#32))) (addi (broadcastInDim S1024x1 ![0] bcast_S1024_S1024x1_0 t) (broadcastInDim S1024x1 ![] bcast_S_S1024x1 (constantI S_ 32 100000#32))) (broadcastInDim S1024x1 ![0] bcast_S1024_S1024x1_0 t)

/-- The same, one axis more. -/
def cols (t : IVec S1024 32) : IVec S1024x1x1 32 := shapeCast _ (col t) shapeCasts_S1024x1_S1024x1x1

/-- Which targets lie inside the rows. -/
def inside (t : IVec S1024 32) : IVec S1024x1 1 :=
  Host.reduce IntOp.andi (andi (cmpi .sge (cols t) (broadcastInDim S1024x1x1 ![] bcast_S_S1024x1x1 (constantI S_ 32 0#32))) (cmpi .sle (cols t) (broadcastInDim S1024x1x1 ![0, 1, 2] bcast_S1x1x1_S1024x1x1_0_1_2 (broadcastInDim S1x1x1 ![2] bcast_S1_S1x1x1_2 (constantI S1 32 99999#32))))) (constantI S_ 1 1#1) reducesTo_S1024x1x1_S1024x1_d2 h_S_

/-- The rows' entries at the targets. -/
def taken (o : FVec Ideal S1024x100000 .f32) (t : IVec S1024 32) : FVec Ideal S1024x1 .f32 :=
  select (inside t) (Host.gather gather_S1024x100000_S1024x1x1_S1024x1_n_1_0_0_1_2_11 o (cols t)) (broadcastInDim S1024x1 ![] bcast_S_S1024x1 (constant S_ .f32 0x7FC00000#32))

/-- The mean of the negated numbers. -/
def mean (p : FVec Ideal S1024x1 .f32) : FVec Ideal S_ .f32 :=
  Host.divf (Host.reduceAdd (Host.negf (shapeCast _ p shapeCasts_S1024x1_S1024)) (constant S_ .f32 0x00000000#32) reducesTo_S1024_S_d0 h_S_) (constant S_ .f32 0x44800000#32)

/-- The first result, of the second. -/
theorem loss_eq (m : (ℓ : Loc nD τ sig) → Buf (Elt Ideal) ℓ) (c : Dev nD) :
    (Value.res_main_v51 (F := Ideal) m c : FVec Ideal S_ .f32)
      = mean (taken (soft (less (Value.res_main_v44 (F := Ideal) m c : FVec Ideal S1024x100000 .f32) (top (Value.res_main_v44 (F := Ideal) m c : FVec Ideal S1024x100000 .f32))))
          (m ((c.tc : Thread nD τ).loc main_arg1) : IVec S1024 32)) := by
  unfold mean taken soft less top inside cols col Value.res_main_v51 Value.res_main_v44
  with_reducible rfl

theorem less_apply (o : FVec Ideal S1024x100000 .f32) (M : FVec Ideal S1024 .f32) (b : Fin 1024) (k : Fin 100000) :
    less o M (ix2 b k) = o (ix2 b k) - M (ix1 b) := by
  pointwise [less]

theorem soft_apply (o : FVec Ideal S1024x100000 .f32) (b : Fin 1024) (k : Fin 100000) :
    soft o (ix2 b k) = o (ix2 b k) - Ideal.log (w 0x00000000#32 + ∑ i : Fin 100000, Ideal.exp (o (ix2 b i))) := by
  pointwise [soft, w]

theorem mean_apply (p : FVec Ideal S1024x1 .f32) (j : S_.Idx) :
    mean p j = Ideal.div (w 0x00000000#32 + ∑ b : Fin 1024, -(p (ix2 b (0 : Fin 1)))) (w 0x44800000#32) := by
  pointwise [mean, w]

/-- The word of minus infinity. -/
theorem w_neg_inf : w 0xFF800000#32 = ⊥ := by simp [w, Ideal.ofBits, Ideal.ieee]

/-- The maximum of a real number and real numbers is real, -/
theorem isReal_foldl {α : Type} (f : α → EReal) (hf : ∀ x, IsReal (f x)) (l : List α) (a : EReal) (ha : IsReal a) :
    IsReal (l.foldl (fun r n => max r (f n)) a) := by
  induction l generalizing a with
  | nil => exact ha
  | cons x l ih => exact ih _ (ha.max (hf x))

/-- and of minus infinity and at least one real number. -/
theorem isReal_foldl_bot {α : Type} (f : α → EReal) (hf : ∀ x, IsReal (f x)) (l : List α) (hl : l ≠ []) :
    IsReal (l.foldl (fun r n => max r (f n)) ⊥) := by
  cases l with
  | nil => exact absurd rfl hl
  | cons x l =>
    refine isReal_foldl f hf l _ ?_
    have e : max ⊥ (f x) = f x := max_eq_right bot_le
    exact (congrArg IsReal e).mpr (hf x)

/-- A host reduction by maximum, as a fold. -/
theorem reduce_max {s t u : Shape} {axes : List (Fin s.rank)} (x : FVec Ideal s .f32) (init : FVec Ideal u .f32) (h : s.ReducesTo axes t) (hu : 0 < u.numel) (j : t.Idx) :
    Host.reduce (FloatOps.maximumf (F := Ideal) (φ := .f32)) x init h hu j
      = ((List.finRange s.numel).filter fun n => h.drop (s.rowMajor.symm n) = j).foldl (fun r n => max r (x (s.rowMajor.symm n))) (init (Shape.Idx.first hu)) := rfl

/-- A host reduction by maximum of real numbers, from minus infinity, is real where there is anything to reduce. -/
theorem isReal_reduce_max {s t u : Shape} {axes : List (Fin s.rank)} (x : FVec Ideal s .f32) (hx : ∀ i, IsReal (x i)) (init : FVec Ideal u .f32) (h : s.ReducesTo axes t)
    (hu : 0 < u.numel) (j : t.Idx) (hi : init (Shape.Idx.first hu) = ⊥) (i : s.Idx) (hj : h.drop i = j) : IsReal (Host.reduce (FloatOps.maximumf (F := Ideal) (φ := .f32)) x init h hu j) := by
  rw [reduce_max, hi]
  refine isReal_foldl_bot _ (fun _ => hx _) _ (List.ne_nil_of_mem (a := s.rowMajor i) (List.mem_filter.mpr ⟨List.mem_finRange _, ?_⟩))
  rw [Equiv.symm_apply_apply, decide_eq_true hj]

/-- A maximum with minus infinity. -/
theorem maximumf_bot {s : Shape} (y x : FVec Ideal s .f32) (j : s.Idx) (hy : y j = ⊥) : maximumf y x j = x j :=
  (show maximumf y x j = max (y j) (x j) from rfl).trans (by rw [hy]; exact max_eq_right bot_le)

/-- The greatest entry of a row of real numbers is real. -/
theorem isReal_top (o : FVec Ideal S1024x100000 .f32) (ho : ∀ i, IsReal (o i)) (b : Fin 1024) : IsReal (top o (ix1 b)) := by
  unfold top
  rw [maximumf_bot _ _ _ w_neg_inf]
  refine isReal_reduce_max o ho _ _ _ _ w_neg_inf (ix2 b (0 : Fin 100000)) ?_
  refine funext fun a => Fin.ext ?_
  match a with
  | ⟨0, _⟩ => rfl

theorem col_apply (t : IVec S1024 32) (ht : ∀ j, (t j).toNat < 100000) (b : Fin 1024) (z : Fin 1) : col t (ix2 b z) = t (ix1 b) := by
  pointwise [col]
  exact wrap_word _ _ (by have := ht (ix1 b); omega)

theorem cols_apply (t : IVec S1024 32) (ht : ∀ j, (t j).toNat < 100000) (b : Fin 1024) (z z' : Fin 1) : cols t (ix3 b z z') = t (ix1 b) := by
  pointwise [cols]
  exact col_apply t ht _ _

end Cert.Proof.Value

end
-- ==== Proof.Value.RefOut.lean ====
/-
  The reference's second result at an index: the scaled cosine, with the margin at the target.
-/
module

public import proofs.«01_k».proof.Proof.Value.Hot
public import proofs.«01_k».proof.Proof.Gen.ReferenceIdeal.Run

@[expose] public section

noncomputable section

namespace Cert.Proof.Value

open Cert.ReferenceIdeal Cert.ReferenceIdeal.Gen
open Idealize.ShloMosaic Idealize.ShloMosaic.ValueIdx
open Cert.ReferenceIdeal.Facts

attribute [local instance] Cert.ReferenceIdeal.Gen.facts

/-- A choice by the comparison of two numbers. -/
theorem select_gt {α : Type} (x y : EReal) (a b : α) : Scalar.select (Ideal.cmp .ogt x y) a b = if y < x then a else b := by
  have : Ideal.cmp .ogt x y = BitVec.ofBool (decide (y < x)) := rfl
  rw [this]
  by_cases h : y < x
  · rw [decide_eq_true h, if_pos h]; rfl
  · rw [decide_eq_false h, if_neg h]; rfl

/-- The second result at an index. -/
theorem out_apply (m : (ℓ : Loc nD τ sig) → Buf (Elt Ideal) ℓ) (c : Dev nD)
    (ht : ∀ j, ((m ((c.tc : Thread nD τ).loc main_arg1) : IVec S1024 32) j).toNat < 100000) (b : Fin 1024) (k : Fin 100000) :
    (Value.res_main_v44 (F := Ideal) m c : FVec Ideal S1024x100000 .f32) (ix2 b k)
      = scaled (((m ((c.tc : Thread nD τ).loc main_arg1) : IVec S1024 32) (ix1 b)).toNat = k.val)
          ((m ((c.tc : Thread nD τ).loc main_arg0) : FVec Ideal S1024x100000 .f32) (ix2 b k)) := by
  generalize hx : (m ((c.tc : Thread nD τ).loc main_arg0) : FVec Ideal S1024x100000 .f32) (ix2 b k) = x
  generalize ht' : (m ((c.tc : Thread nD τ).loc main_arg1) : IVec S1024 32) = t at ht ⊢
  have e : (Value.res_main_v44 (F := Ideal) m c : FVec Ideal S1024x100000 .f32) (ix2 b k)
      = (hot t (ix2 b k) * Scalar.select (Ideal.cmp .ogt (clip x - w 0xBF60A940#32) (w 0x00000000#32))
            (clip x * w 0x3F60A940#32 - Ideal.sqrt (max (w 0x3F800000#32 - clip x * clip x) (w 0x3F800000#32 * w 0x33D6BF95#32)) * w 0x3EF57744#32)
            (clip x - w 0x3E757744#32)
          + (w 0x3F800000#32 - hot t (ix2 b k)) * clip x) * w 0x42000000#32 := by
    rw [← hx, ← ht']
    rfl
  rw [e, select_gt, hot_apply t ht, w_one, one_mul, ← w_one]
  refine congrArg (· * w 0x42000000#32) ((one_hot_mix _ _ _).trans ?_)
  rfl

end Cert.Proof.Value

end
-- ==== Proof.Value.RefTaken.lean ====
/-
  The reference's entries at the targets, and with them its first result as a mean of cross entropies.
-/
module

public import proofs.«01_k».proof.Proof.Value.RefLoss
public import proofs.«01_k».proof.Proof.Value.RefOut
public import Idealize.ShloMosaic.Lib.ReduceAll

@[expose] public section

set_option maxRecDepth 16384

noncomputable section

namespace Cert.Proof.Value

open Cert.ReferenceIdeal Cert.ReferenceIdeal.Gen
open Idealize.ShloMosaic
open Cert.ReferenceIdeal.Facts

attribute [local instance] Cert.ReferenceIdeal.Gen.facts

/-- An index of the targets' column with one axis more. -/
theorem eq_unit3 (i : S1024x1x1.Idx) : ∃ b : Fin 1024, i = ix3 b (0 : Fin 1) (0 : Fin 1) := by
  refine ⟨i 0, funext fun a => ?_⟩
  match a with
  | ⟨0, _⟩ => rfl
  | ⟨1, _⟩ => exact Fin.ext (by have := (i 1).isLt; have e : S1024x1x1.size 1 = 1 := rfl; show (i 1).val = 0; omega)
  | ⟨2, _⟩ => exact Fin.ext (by have := (i 2).isLt; have e : S1024x1x1.size 2 = 1 := rfl; show (i 2).val = 0; omega)

/-- A word under the row's length, read signed, lies between 0 and the last entry. -/
theorem range_word (v : BitVec 32) (h : v.toNat < 100000) : IntOp.andi (IntOp.cmpi .sge v 0#32) (IntOp.cmpi .sle v 99999#32) = 1#1 := by
  have hv : v.toInt = v.toNat := by rw [BitVec.toInt_eq_toNat_cond, if_pos (by omega)]
  have h1 : IntOp.cmpi .sge v 0#32 = 1#1 := by
    show BitVec.ofBool ((0#32).sle v) = 1#1
    rw [BitVec.sle_eq_decide, decide_eq_true (by rw [hv]; simp)]
    rfl
  have h2 : IntOp.cmpi .sle v 99999#32 = 1#1 := by
    show BitVec.ofBool (v.sle 99999#32) = 1#1
    rw [BitVec.sle_eq_decide, decide_eq_true (by rw [hv]; simp; omega)]
    rfl
  rw [h1, h2]
  rfl

/-- Every target lies inside. -/
theorem inside_apply (t : IVec S1024 32) (ht : ∀ j, (t j).toNat < 100000) (j : S1024x1.Idx) : inside t j = 1#1 := by
  unfold inside
  refine Host.reduce_andi_one _ _ _ _ _ rfl (fun i => ?_)
  obtain ⟨b, rfl⟩ := eq_unit3 i
  refine Eq.trans (b := IntOp.andi (IntOp.cmpi .sge (cols t (ix3 b (0 : Fin 1) (0 : Fin 1))) 0#32) (IntOp.cmpi .sle (cols t (ix3 b (0 : Fin 1) (0 : Fin 1))) 99999#32)) rfl ?_
  rw [cols_apply t ht]
  exact range_word _ (ht _)

/-- The gather reads row `b` at its target. -/
theorem gather_apply (o : FVec Ideal S1024x100000 .f32) (t : IVec S1024 32) (ht : ∀ j, (t j).toNat < 100000) (b : Fin 1024) :
    Host.gather gather_S1024x100000_S1024x1x1_S1024x1_n_1_0_0_1_2_11 o (cols t) (ix2 b (0 : Fin 1)) = o (ix2 b (⟨(t (ix1 b)).toNat, ht _⟩ : Fin 100000)) := by
  refine congrArg o (funext fun a => Fin.ext ?_)
  have h := ht (ix1 b)
  match a with
  | ⟨0, _⟩ =>
    show GatherDims.start _ _ _ _ + GatherDims.batchCoord _ _ _ + GatherDims.offCoord _ _ _ = b.val
    have e1 : gather_S1024x100000_S1024x1x1_S1024x1_n_1_0_0_1_2_11.start (ix2 b (0 : Fin 1)) (cols t) ⟨0, by decide⟩ = 0 := rfl
    have e2 : gather_S1024x100000_S1024x1x1_S1024x1_n_1_0_0_1_2_11.batchCoord (ix2 b (0 : Fin 1)) ⟨0, by decide⟩ = b.val := rfl
    have e3 : gather_S1024x100000_S1024x1x1_S1024x1_n_1_0_0_1_2_11.offCoord (ix2 b (0 : Fin 1)) ⟨0, by decide⟩ = 0 := rfl
    rw [e1, e2, e3]
    omega
  | ⟨1, _⟩ =>
    show GatherDims.start _ _ _ _ + GatherDims.batchCoord _ _ _ + GatherDims.offCoord _ _ _ = (t (ix1 b)).toNat
    have e1 : gather_S1024x100000_S1024x1x1_S1024x1_n_1_0_0_1_2_11.start (ix2 b (0 : Fin 1)) (cols t) ⟨1, by decide⟩
        = min (cols t (ix3 b (0 : Fin 1) (0 : Fin 1))).toInt.toNat 99999 := by
      unfold GatherDims.start
      rw [dif_pos (by decide)]
      refine congrArg₂ (fun q n => min (cols t q).toInt.toNat n) (funext fun a => ?_) rfl
      match a with
      | ⟨0, _⟩ => rfl
      | ⟨1, _⟩ => rfl
      | ⟨2, _⟩ => rfl
    have e2 : gather_S1024x100000_S1024x1x1_S1024x1_n_1_0_0_1_2_11.batchCoord (ix2 b (0 : Fin 1)) ⟨1, by decide⟩ = 0 := rfl
    have e3 : gather_S1024x100000_S1024x1x1_S1024x1_n_1_0_0_1_2_11.offCoord (ix2 b (0 : Fin 1)) ⟨1, by decide⟩ = 0 := rfl
    rw [e1, e2, e3, cols_apply t ht, BitVec.toInt_eq_toNat_cond, if_pos (by omega)]
    omega

/-- The entry taken from row `b` is the one at its target. -/
theorem taken_apply (o : FVec Ideal S1024x100000 .f32) (t : IVec S1024 32) (ht : ∀ j, (t j).toNat < 100000) (b : Fin 1024) :
    taken o t (ix2 b (0 : Fin 1)) = o (ix2 b (⟨(t (ix1 b)).toNat, ht _⟩ : Fin 100000)) := by
  have e : taken o t (ix2 b (0 : Fin 1)) = Scalar.select (inside t (ix2 b (0 : Fin 1)))
      (Host.gather gather_S1024x100000_S1024x1x1_S1024x1_n_1_0_0_1_2_11 o (cols t) (ix2 b (0 : Fin 1))) (w 0x7FC00000#32) := rfl
  rw [e, inside_apply t ht, gather_apply o t ht]
  rfl

/-- The rows' sum of exponentials of differences. -/
theorem sum_less (o : FVec Ideal S1024x100000 .f32) (M : FVec Ideal S1024 .f32) (b : Fin 1024) :
    (∑ i : Fin 100000, Ideal.exp (less o M (ix2 b i))) = ∑ i : Fin 100000, Ideal.exp (o (ix2 b i) - M (ix1 b)) :=
  Finset.sum_congr rfl fun i _ => congrArg Ideal.exp (less_apply o M b i)

/-- The mean over the rows of the logarithm of the row's sum of exponentials, less the entry at the target. -/
theorem mean_taken (o : FVec Ideal S1024x100000 .f32) (ho : ∀ i, IsReal (o i)) (t : IVec S1024 32) (ht : ∀ j, (t j).toNat < 100000) (j : S_.Idx) :
    mean (taken (soft (less o (top o))) t) j
      = (w 0x00000000#32 + ∑ b : Fin 1024,
          ((w 0x42000000#32 + Ideal.log (∑ k : Fin 100000, Ideal.exp (o (ix2 b k) - w 0x42000000#32))) - o (ix2 b (⟨_, ht (ix1 b)⟩ : Fin 100000)))) * w 0x3A800000#32 := by
  rw [mean_apply, div_1024]
  refine congrArg (fun s => (w 0x00000000#32 + s) * w 0x3A800000#32) (Finset.sum_congr rfl fun b _ => ?_)
  rw [taken_apply _ _ ht, soft_apply, less_apply, sum_less]
  exact cross_entropy (fun k : Fin 100000 => o (ix2 b k)) (fun k => ho _) _ (isReal_top o ho b) _

/-- The second result is real everywhere. -/
theorem isReal_out (m : (ℓ : Loc nD τ sig) → Buf (Elt Ideal) ℓ) (c : Dev nD)
    (ht : ∀ j, ((m ((c.tc : Thread nD τ).loc main_arg1) : IVec S1024 32) j).toNat < 100000) (i : S1024x100000.Idx) :
    IsReal ((Value.res_main_v44 (F := Ideal) m c : FVec Ideal S1024x100000 .f32) i) := by
  have e : i = ix2 (i 0) (i 1) := funext fun a => by
    match a with
    | ⟨0, _⟩ => rfl
    | ⟨1, _⟩ => rfl
  rw [e]
  exact (congrArg IsReal (out_apply m c ht (i 0) (i 1))).mpr (isReal_scaled _ _)

end Cert.Proof.Value

end
-- ==== Proof.Value.Equal.lean ====
/-
  From the same arguments, every target a class, the kernel's two results are the reference's.
-/
module

public import proofs.«01_k».proof.Proof.Value.Found
public import proofs.«01_k».proof.Proof.Value.RefTaken

@[expose] public section

set_option maxRecDepth 16384

noncomputable section

namespace Cert.Proof.Value

open Idealize.ShloMosaic
open Idealize.ShloMosaic.TcCoe
open Cert.Proof.OfKernelIdeal

attribute [local instance] Cert.KernelIdeal.Gen.facts Cert.ReferenceIdeal.Gen.facts

/-- The logits of the reference's arguments. -/
abbrev xref (m' : (ℓ : Loc Cert.ReferenceIdeal.nD Cert.ReferenceIdeal.τ Cert.ReferenceIdeal.sig) → Buf (Elt Ideal) ℓ) (c : Dev Cert.ReferenceIdeal.nD) :
    FVec Ideal Cert.ReferenceIdeal.S1024x100000 .f32 := m' ((c.tc : Thread Cert.ReferenceIdeal.nD Cert.ReferenceIdeal.τ).loc Cert.ReferenceIdeal.main_arg0)

/-- The targets of the reference's arguments. -/
abbrev tref (m' : (ℓ : Loc Cert.ReferenceIdeal.nD Cert.ReferenceIdeal.τ Cert.ReferenceIdeal.sig) → Buf (Elt Ideal) ℓ) (c : Dev Cert.ReferenceIdeal.nD) :
    IVec Cert.ReferenceIdeal.S1024 32 := m' ((c.tc : Thread Cert.ReferenceIdeal.nD Cert.ReferenceIdeal.τ).loc Cert.ReferenceIdeal.main_arg1)

/-- The reference's second result. -/
abbrev oref (m' : (ℓ : Loc Cert.ReferenceIdeal.nD Cert.ReferenceIdeal.τ Cert.ReferenceIdeal.sig) → Buf (Elt Ideal) ℓ) (c : Dev Cert.ReferenceIdeal.nD) :
    FVec Ideal Cert.ReferenceIdeal.S1024x100000 .f32 := Cert.ReferenceIdeal.Value.res_main_v44 (F := Ideal) m' c

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The second result at an index, the reference's. -/
theorem oref_apply (h0 : xref m' c = xin m c) (h1 : tref m' c = tin m c) (ht : ∀ j, (tin m c j : BitVec 32).toNat < 100000) (b : Fin 1024) (k : Fin 100000) :
    oref m' c (ix2 b k) = outAt (xin m c) (tin m c) b k := by
  refine (out_apply m' c (fun j => by rw [show m' _ = _ from h1]; exact ht j) b k).trans ?_
  show scaled ((tref m' c (ix1 b)).toNat = k.val) (xref m' c (ix2 b k)) = scaled ((tin m c (ix1 b) : BitVec 32).toNat = k.val) (xin m c (ix2 b k))
  simp only [h0, h1]

/-- The second results are equal. -/
theorem equal_out (h0 : xref m' c = xin m c) (h1 : tref m' c = tin m c) (ht : ∀ j, (tin m c j : BitVec 32).toNat < 100000) :
    oref m' c = V5 m c Cert.KernelIdeal.main_v9 := by
  funext i
  have e : i = ix2 (i 0 : Fin 1024) (i 1 : Fin 100000) := funext fun a => by
    match a with
    | ⟨0, _⟩ => rfl
    | ⟨1, _⟩ => rfl
  rw [e]
  exact (oref_apply m m' c h0 h1 ht _ _).trans (V5_v9_apply m c ht _ _).symm

/-- The first results are equal. -/
theorem equal_loss (h0 : xref m' c = xin m c) (h1 : tref m' c = tin m c) (ht : ∀ j, (tin m c j : BitVec 32).toNat < 100000) :
    (Cert.ReferenceIdeal.Value.res_main_v51 (F := Ideal) m' c : FVec Ideal Cert.ReferenceIdeal.S_ .f32) = V5 m c Cert.KernelIdeal.main_v8 := by
  have ht' : ∀ j, (tref m' c j).toNat < 100000 := fun j => by rw [h1]; exact ht j
  funext j
  refine (congrFun (loss_eq m' c) j).trans ((mean_taken (oref m' c) (isReal_out m' c ht') (tref m' c) ht' j).trans ?_)
  refine Eq.trans ?_ (V5_v8_apply m c ht j).symm
  rw [w_zero, zero_add]
  refine congrArg (· * w 0x3A800000#32) (Finset.sum_congr rfl fun b _ => ?_)
  have es : (∑ k : Fin 100000, Ideal.exp (oref m' c (ix2 b k) - w 0x42000000#32)) = ∑ k : Fin 100000, Ideal.exp (outAt (xin m c) (tin m c) b k - w 0x42000000#32) :=
    Finset.sum_congr rfl fun k _ => by rw [oref_apply m m' c h0 h1 ht]
  have ek : (⟨(tref m' c (ix1 b)).toNat, ht' (ix1 b)⟩ : Fin 100000) = ⟨(tin m c (ix1 b) : BitVec 32).toNat, ht (ix1 b)⟩ :=
    Fin.ext (congrArg (fun t : IVec Cert.ReferenceIdeal.S1024 32 => (t (ix1 b)).toNat) h1)
  have eo := (congrArg (fun k : Fin 100000 => oref m' c (ix2 b k)) ek).trans (oref_apply m m' c h0 h1 ht b _)
  exact congrArg₂ (fun s v : EReal => (w 0x42000000#32 + Ideal.log s) - v) es eo

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Targets
public import proofs.«01_k».proof.Proof.Kernel.Ends
public import proofs.«01_k».proof.Proof.KernelIdeal.Ends
public import proofs.«01_k».proof.Proof.Value.Equal
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_in_range.Gen.facts

/-- The kernel's frame: its run with the values dropped. -/
theorem frame_p : Cert.quiescent_Kernel := fun m ρ hpre =>
  (θ_run Cert.Kernel.defs _ _).mono (fun _ h => ⟨fun c => ⟨(h.1 c).1, (h.1 c).2.1⟩, h.2⟩)
    (OfKernel.run_results (F := Bits) m ρ fun d => target_lt _ _ (hpre d))

/-- The idealized kernel's frame. -/
theorem frame_pi : Cert.quiescent_KernelIdeal := fun m ρ hpre =>
  (θ_run Cert.KernelIdeal.defs _ _).mono (fun _ h => ⟨fun c => ⟨(h.1 c).1, (h.1 c).2.1⟩, h.2⟩)
    (OfKernelIdeal.run_results (F := Ideal) m ρ fun d => target_lt _ _ (hpre d))

/-- The reference's frame: a straight line of host operations, declaring no counter. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same under the precondition. -/
theorem frame_ri_pre : Cert.quiescent_ReferenceIdeal_pre_in_range := fun m ρ _ => frame_ri m ρ trivial

/-- Over the extended reals the idealized kernel's two results are the reference's. -/
theorem algebraic : Cert.algebraic_KernelIdeal_ReferenceIdeal := fun m ρ m' ρ' hpre hm => by
  have ht := fun d => target_lt _ _ (hpre d)
  refine ⟨fun c => OfKernelIdeal.V5 m c (Proc.devRef .tc Cert.KernelIdeal.main_v8), fun c => OfKernelIdeal.V5 m c (Proc.devRef .tc Cert.KernelIdeal.main_v9), ?_, ?_⟩
  · exact (θ_run Cert.KernelIdeal.defs _ _).mono (fun _ h c => ⟨(h.1 c).2.2.1, (h.1 c).2.2.2, (h.1 c).1, (h.1 c).2.1⟩)
      (OfKernelIdeal.run_results (F := Ideal) m ρ ht)
  · exact (θ_run Cert.ReferenceIdeal.defs _ _).mono
      (fun _ h c => ⟨(h c).1.trans (Value.equal_loss m m' c (hm c).1 (hm c).2 (ht c)), (h c).2.1.trans (Value.equal_out m m' c (hm c).1 (hm c).2 (ht c)), (h c).2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_in_range.Gen.facts,
  frame_p, frame_pi, frame_ri, frame_ri_pre, trivial, algebraic⟩

end Cert.Proof

end
